-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_variance_above_minus_eps [hPre_variance_above_minus_eps : Cert.Pre_variance_above_minus_eps.Facts] (m : (ℓ : Loc Cert.KernelIdeal.nD Cert.KernelIdeal.τ Cert.KernelIdeal.sig) → Buf (Elt Ideal) ℓ) : Prop :=
  ∀ c : Dev Cert.KernelIdeal.nD,
    (Cert.Pre_variance_above_minus_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_variance_above_minus_eps [hPre_variance_above_minus_eps : Cert.Pre_variance_above_minus_eps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_variance_above_minus_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_variance_above_minus_eps [hKernelIdeal : Cert.KernelIdeal.Facts] [hPre_variance_above_minus_eps : Cert.Pre_variance_above_minus_eps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_variance_above_minus_eps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_variance_above_minus_eps [hReferenceIdeal : Cert.ReferenceIdeal.Facts] [hPre_variance_above_minus_eps : Cert.Pre_variance_above_minus_eps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_variance_above_minus_eps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_variance_above_minus_eps [hKernelIdeal : Cert.KernelIdeal.Facts] [hReferenceIdeal : Cert.ReferenceIdeal.Facts] [hPre_variance_above_minus_eps : Cert.Pre_variance_above_minus_eps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_variance_above_minus_eps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v110_0)) (v1 : (c : Dev Cert.KernelIdeal.nD) → Buf (Elt Ideal) ((c.tc : Thread Cert.KernelIdeal.nD Cert.KernelIdeal.τ).loc Cert.KernelIdeal.main_v109)) (v2 : (c : Dev Cert.KernelIdeal.nD) → Buf (Elt Ideal) ((c.tc : Thread Cert.KernelIdeal.nD Cert.KernelIdeal.τ).loc Cert.KernelIdeal.main_v110_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110_0) = v0 c
          ∧ r.2.mem ((c.tc : Thread Cert.KernelIdeal.nD Cert.KernelIdeal.τ).loc Cert.KernelIdeal.main_v109) = v1 c
          ∧ r.2.mem ((c.tc : Thread Cert.KernelIdeal.nD Cert.KernelIdeal.τ).loc Cert.KernelIdeal.main_v110_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v279) = v1 c
          ∧ r.2.mem ((c.tc : Thread Cert.ReferenceIdeal.nD Cert.ReferenceIdeal.τ).loc Cert.ReferenceIdeal.main_v262) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_variance_above_minus_eps : Cert.Pre_variance_above_minus_eps.Facts),
    quiescent_Kernel (hKernel := hKernel)
    ∧ quiescent_KernelIdeal (hKernelIdeal := hKernelIdeal)
    ∧ quiescent_KernelIdeal_pre_variance_above_minus_eps (hKernelIdeal := hKernelIdeal) (hPre_variance_above_minus_eps := hPre_variance_above_minus_eps)
    ∧ quiescent_ReferenceIdeal (hReferenceIdeal := hReferenceIdeal)
    ∧ quiescent_ReferenceIdeal_pre_variance_above_minus_eps (hReferenceIdeal := hReferenceIdeal) (hPre_variance_above_minus_eps := hPre_variance_above_minus_eps)
    ∧ preserves_Kernel_KernelIdeal
    ∧ algebraic_KernelIdeal_ReferenceIdeal_pre_variance_above_minus_eps (hKernelIdeal := hKernelIdeal) (hReferenceIdeal := hReferenceIdeal) (hPre_variance_above_minus_eps := hPre_variance_above_minus_eps)
-- ==== Pre_variance_above_minus_eps.lean ====
abbrev S2000000x6 : Shape := ⟨2, ![2000000, 6]⟩
abbrev S2000000 : Shape := ⟨1, ![2000000]⟩
abbrev S1 : Shape := ⟨1, ![1]⟩
abbrev S1x5 : Shape := ⟨2, ![1, 5]⟩
abbrev S128x40 : Shape := ⟨2, ![128, 40]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S2000000x6 .f32) (main_arg1 : IVec S2000000 32) (main_arg2 : IVec S1 32) (main_arg3 : FVec F S1x5 .f32) (main_arg4 : FVec F S1x5 .f32) (main_arg5 : FVec F S128x40 .f32) (main_arg6 : FVec F S128 .f32) (main_arg7 : FVec F S128 .f32) (main_arg8 : FVec F S128 .f32) (main_arg9 : FVec F S128 .f32) : IVec S128 1 :=
  let main_cst : FVec F S_ .f32 := constant S_ .f32 0x3A83126F#32
  let main_v0 : FVec F S128 .f32 := broadcastInDim S128 ![] bcast_S_S128 main_cst
  let main_v1 : FVec F S128 .f32 := addf main_arg9 main_v0
  let main_cst_0 : FVec F S_ .f32 := constant S_ .f32 0x00000000#32
  let main_v2 : FVec F S128 .f32 := broadcastInDim S128 ![] bcast_S_S128 main_cst_0
  let main_v3 : IVec S128 1 := cmpf .ogt main_v1 main_v2
  main_v3
-- ==== Kernel.lean ====
abbrev S2000000x6 : Shape := ⟨2, ![2000000, 6]⟩
abbrev S2000000 : Shape := ⟨1, ![2000000]⟩
abbrev S1 : Shape := ⟨1, ![1]⟩
abbrev S1x5 : Shape := ⟨2, ![1, 5]⟩
abbrev S128x40 : Shape := ⟨2, ![128, 40]⟩
abbrev S128 : Shape := ⟨1, ![128]⟩
abbrev S2000000x5 : Shape := ⟨2, ![2000000, 5]⟩
abbrev S_ : Shape := ⟨0, ![]⟩
abbrev S2000000x1 : Shape := ⟨2, ![2000000, 1]⟩
abbrev S100000 : Shape := ⟨1, ![100000]⟩
abbrev S100000x33x5 : Shape := ⟨3, ![100000, 33, 5]⟩
abbrev S2000000x2 : Shape := ⟨2, ![2000000, 2]⟩
abbrev S100000x32x5 : Shape := ⟨3, ![100000, 32, 5]⟩
abbrev S100000x160 : Shape := ⟨2, ![100000, 160]⟩
abbrev S32 : Shape := ⟨1, ![32]⟩
abbrev S160 : Shape := ⟨1, ![160]⟩
abbrev S160x1 : Shape := ⟨2, ![160, 1]⟩
abbrev S1x32 : Shape := ⟨2, ![1, 32]⟩
abbrev S160x32 : Shape := ⟨2, ![160, 32]⟩
abbrev S1x160 : Shape := ⟨2, ![1, 160]⟩
abbrev S32x1 : Shape := ⟨2, ![32, 1]⟩
abbrev S32x160 : Shape := ⟨2, ![32, 160]⟩
abbrev S8 : Shape := ⟨1, ![8]⟩
abbrev S1x8 : Shape := ⟨2, ![1, 8]⟩
abbrev S160x8 : Shape := ⟨2, ![160, 8]⟩
abbrev S40 : Shape := ⟨1, ![40]⟩
abbrev S1x40 : Shape := ⟨2, ![1, 40]⟩
abbrev S8x1 : Shape := ⟨2, ![8, 1]⟩
abbrev S8x40 : Shape := ⟨2, ![8, 40]⟩
abbrev S40x8 : Shape := ⟨2, ![40, 8]⟩
abbrev S40x128 : Shape := ⟨2, ![40, 128]⟩
abbrev S1x1x1x5 : Shape := ⟨4, ![1, 1, 1, 5]⟩
abbrev S1x1x8x5 : Shape := ⟨4, ![1, 1, 8, 5]⟩
abbrev S1x128 : Shape := ⟨2, ![1, 128]⟩
abbrev S1x8x1 : Shape := ⟨3, ![1, 8, 1]⟩
abbrev S100000x8x1 : Shape := ⟨3, ![100000, 8, 1]⟩
abbrev S100000x128 : Shape := ⟨2, ![100000, 128]⟩
abbrev S100000x8 : Shape := ⟨2, ![100000, 8]⟩
abbrev S1000x160 : Shape := ⟨2, ![1000, 160]⟩
abbrev S1000x128 : Shape := ⟨2, ![1000, 128]⟩
abbrev S1000x8 : Shape := ⟨2, ![1000, 8]⟩
abbrev S1000x32 : Shape := ⟨2, ![1000, 32]⟩
abbrev S1000x5 : Shape := ⟨2, ![1000, 5]⟩
abbrev S1000 : Shape := ⟨1, ![1000]⟩
abbrev S1000x1 : Shape := ⟨2, ![1000, 1]⟩
abbrev S1000x40 : Shape := ⟨2, ![1000, 40]⟩

abbrev nBuf : Space → Nat
  | .hbm => 206
  | .vmem => 17
  | .smem => 0
  | _ => 0

abbrev hbmTy0_0 (i : Nat) : BufTy := match i % 128 with
  | 0 => ⟨S2000000x6, .f32⟩
  | 1 => ⟨S2000000, .i32⟩
  | 2 => ⟨S1, .i32⟩
  | 3 => ⟨S1x5, .f32⟩
  | 4 => ⟨S1x5, .f32⟩
  | 5 => ⟨S128x40, .f32⟩
  | 6 => ⟨S128, .f32⟩
  | 7 => ⟨S128, .f32⟩
  | 8 => ⟨S128, .f32⟩
  | 9 => ⟨S128, .f32⟩
  | 10 => ⟨S2000000x5, .f32⟩
  | 11 => ⟨S2000000, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x5, .f32⟩
  | 32 => ⟨S_, .i32⟩
  | 33 => ⟨S100000, .i32⟩
  | 34 => ⟨S_, .i32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S_, .i32⟩
  | 47 => ⟨S2000000, .i32⟩
  | 48 => ⟨S100000, .i32⟩
  | 49 => ⟨S_, .i32⟩
  | 50 => ⟨S_, .i32⟩
  | 51 => ⟨S100000, .i32⟩
  | 52 => ⟨S100000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S_, .i32⟩
  | 69 => ⟨S2000000, .i32⟩
  | 70 => ⟨S2000000, .i32⟩
  | 71 => ⟨S_, .f32⟩
  | 72 => ⟨S100000x33x5, .f32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x1, .i32⟩
  | 89 => ⟨S2000000x2, .i32⟩
  | 90 => ⟨S100000x33x5, .f32⟩
  | 91 => ⟨S100000x32x5, .f32⟩
  | 92 => ⟨S100000x160, .f32⟩
  | 93 => ⟨S32, .i32⟩
  | 94 => ⟨S160, .i32⟩
  | 95 => ⟨S160x1, .i32⟩
  | 96 => ⟨S1x32, .i32⟩
  | 97 => ⟨S_, .i32⟩
  | 98 => ⟨S1x32, .i32⟩
  | 99 => ⟨S1x32, .i32⟩
  | 100 => ⟨S_, .i32⟩
  | 101 => ⟨S1x32, .i32⟩
  | 102 => ⟨S1x32, .i32⟩
  | 103 => ⟨S160x32, .i32⟩
  | 104 => ⟨S160x32, .i32⟩
  | 105 => ⟨S160x32, .i1⟩
  | 106 => ⟨S160x32, .f32⟩
  | 107 => ⟨S1x160, .i32⟩
  | 108 => ⟨S_, .i32⟩
  | 109 => ⟨S_, .i32⟩
  | 110 => ⟨S1x160, .i32⟩
  | 111 => ⟨S1x160, .i32⟩
  | 112 => ⟨S1x160, .i32⟩
  | 113 => ⟨S_, .i32⟩
  | 114 => ⟨S1x160, .i32⟩
  | 115 => ⟨S1x160, .i1⟩
  | 116 => ⟨S1x160, .i32⟩
  | 117 => ⟨S1x160, .i32⟩
  | 118 => ⟨S_, .i32⟩
  | 119 => ⟨S1x160, .i32⟩
  | 120 => ⟨S1x160, .i1⟩
  | 121 => ⟨S1x160, .i1⟩
  | 122 => ⟨S_, .i32⟩
  | 123 => ⟨S1x160, .i32⟩
  | 124 => ⟨S1x160, .i32⟩
  | 125 => ⟨S1x160, .i32⟩
  | 126 => ⟨S32x1, .i32⟩
  | 127 => ⟨S32x160, .i32⟩
  | _ => ⟨S2000000x6, .f32⟩

abbrev hbmTy0_1 (i : Nat) : BufTy := match i % 128 with
  | 0 => ⟨S32x160, .i32⟩
  | 1 => ⟨S32x160, .i1⟩
  | 2 => ⟨S32x160, .f32⟩
  | 3 => ⟨S160x1, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S160x1, .i32⟩
  | 11 => ⟨S160x1, .i32⟩
  | 12 => ⟨S_, .i32⟩
  | 13 => ⟨S160x1, .i32⟩
  | 14 => ⟨S160x1, .i1⟩
  | 15 => ⟨S_, .i32⟩
  | 16 => ⟨S160x1, .i32⟩
  | 17 => ⟨S160x1, .i1⟩
  | 18 => ⟨S_, .i32⟩
  | 19 => ⟨S_, .i1⟩
  | 20 => ⟨S160x1, .i1⟩
  | 21 => ⟨S160x1, .i1⟩
  | 22 => ⟨S160x1, .i1⟩
  | 23 => ⟨S160x1, .i32⟩
  | 24 => ⟨S160x1, .i32⟩
  | 25 => ⟨S160x1, .i32⟩
  | 26 => ⟨S8, .i32⟩
  | 27 => ⟨S1x8, .i32⟩
  | 28 => ⟨S160x8, .i32⟩
  | 29 => ⟨S160x8, .i32⟩
  | 30 => ⟨S160x8, .i1⟩
  | 31 => ⟨S160x8, .f32⟩
  | 32 => ⟨S40, .i32⟩
  | 33 => ⟨S1x40, .i32⟩
  | 34 => ⟨S_, .i32⟩
  | 35 => ⟨S_, .i32⟩
  | 36 => ⟨S1x40, .i32⟩
  | 37 => ⟨S1x40, .i32⟩
  | 38 => ⟨S1x40, .i32⟩
  | 39 => ⟨S_, .i32⟩
  | 40 => ⟨S1x40, .i32⟩
  | 41 => ⟨S1x40, .i1⟩
  | 42 => ⟨S1x40, .i32⟩
  | 43 => ⟨S1x40, .i32⟩
  | 44 => ⟨S_, .i32⟩
  | 45 => ⟨S1x40, .i32⟩
  | 46 => ⟨S1x40, .i1⟩
  | 47 => ⟨S1x40, .i1⟩
  | 48 => ⟨S_, .i32⟩
  | 49 => ⟨S1x40, .i32⟩
  | 50 => ⟨S1x40, .i32⟩
  | 51 => ⟨S1x40, .i32⟩
  | 52 => ⟨S8, .i32⟩
  | 53 => ⟨S8x1, .i32⟩
  | 54 => ⟨S8x40, .i32⟩
  | 55 => ⟨S8x40, .i32⟩
  | 56 => ⟨S8x40, .i1⟩
  | 57 => ⟨S8x40, .f32⟩
  | 58 => ⟨S40x8, .f32⟩
  | 59 => ⟨S40x128, .f32⟩
  | 60 => ⟨S1x1x1x5, .f32⟩
  | 61 => ⟨S1x1x8x5, .f32⟩
  | 62 => ⟨S1x40, .f32⟩
  | 63 => ⟨S1x1x1x5, .f32⟩
  | 64 => ⟨S1x1x8x5, .f32⟩
  | 65 => ⟨S1x40, .f32⟩
  | 66 => ⟨S1x128, .f32⟩
  | 67 => ⟨S1x128, .f32⟩
  | 68 => ⟨S1x128, .f32⟩
  | 69 => ⟨S1x128, .f32⟩
  | 70 => ⟨S8, .f32⟩
  | 71 => ⟨S_, .f32⟩
  | 72 => ⟨S8, .f32⟩
  | 73 => ⟨S8, .f32⟩
  | 74 => ⟨S1x8x1, .f32⟩
  | 75 => ⟨S100000x8x1, .f32⟩
  | 76 => ⟨S100000x128, .f32⟩
  | 77 => ⟨S100000x8, .f32⟩
  | _ => ⟨S2000000x6, .f32⟩

abbrev hbmTy (i : Nat) : BufTy := match i / 128 with
  | 0 => hbmTy0_0 i
  | 1 => hbmTy0_1 i
  | _ => ⟨S2000000x6, .f32⟩

abbrev bufTy : (tb : Table) → Fin (tcTables nBuf tb) → BufTy
  | .hbm, ⟨i, _⟩ => hbmTy i
  | .local _ .vmem, ⟨0, _⟩ => ⟨S1000x160, .f32⟩
  | .local _ .vmem, ⟨1, _⟩ => ⟨S1000x160, .f32⟩
  | .local _ .vmem, ⟨2, _⟩ => ⟨S160x32, .f32⟩
  | .local _ .vmem, ⟨3, _⟩ => ⟨S32x160, .f32⟩
  | .local _ .vmem, ⟨4, _⟩ => ⟨S160x8, .f32⟩
  | .local _ .vmem, ⟨5, _⟩ => ⟨S40x128, .f32⟩
  | .local _ .vmem, ⟨6, _⟩ => ⟨S1x40, .f32⟩
  | .local _ .vmem, ⟨7, _⟩ => ⟨S1x40, .f32⟩
  | .local _ .vmem, ⟨8, _⟩ => ⟨S40x8, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1000x128, .f32⟩
  | .local _ .vmem, ⟨14, _⟩ => ⟨S1000x128, .f32⟩
  | .local _ .vmem, ⟨15, _⟩ => ⟨S1000x8, .f32⟩
  | .local _ .vmem, ⟨16, _⟩ => ⟨S1000x8, .f32⟩
  | _, _ => ⟨S2000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_call2_call0_c : Ref sig .tc := ⟨.hbm, 49, rfl⟩
abbrev main_call2_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_call3_v0 : Ref sig .tc := ⟨.hbm, 68, rfl⟩
abbrev main_call3_v1 : Ref sig .tc := ⟨.hbm, 69, rfl⟩
abbrev main_v39 : Ref sig .tc := ⟨.hbm, 70, rfl⟩
abbrev main_cst : Ref sig .tc := ⟨.hbm, 71, rfl⟩
abbrev main_v40 : Ref sig .tc := ⟨.hbm, 72, rfl⟩
abbrev main_c_12 : Ref sig .tc := ⟨.hbm, 73, rfl⟩
abbrev main_v41 : Ref sig .tc := ⟨.hbm, 74, rfl⟩
abbrev main_v42 : Ref sig .tc := ⟨.hbm, 75, rfl⟩
abbrev main_c_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_c_15 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_16 : Ref sig .tc := ⟨.hbm, 97, rfl⟩
abbrev main_v61 : Ref sig .tc := ⟨.hbm, 98, rfl⟩
abbrev main_v62 : Ref sig .tc := ⟨.hbm, 99, rfl⟩
abbrev main_c_17 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_18 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_call4_v5 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_c : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_0 : Ref sig .tc := ⟨.hbm, 122, rfl⟩
abbrev main_call4_v12 : Ref sig .tc := ⟨.hbm, 123, rfl⟩
abbrev main_call4_v13 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_c_19 : Ref sig .tc := ⟨.hbm, 132, rfl⟩
abbrev main_call5_v0 : Ref sig .tc := ⟨.hbm, 133, rfl⟩
abbrev main_call5_c : Ref sig .tc := ⟨.hbm, 134, rfl⟩
abbrev main_call5_v1 : Ref sig .tc := ⟨.hbm, 135, rfl⟩
abbrev main_call5_c_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_c_1 : Ref sig .tc := ⟨.hbm, 140, rfl⟩
abbrev main_call5_v5 : Ref sig .tc := ⟨.hbm, 141, rfl⟩
abbrev main_call5_v6 : Ref sig .tc := ⟨.hbm, 142, rfl⟩
abbrev main_call5_c_2 : Ref sig .tc := ⟨.hbm, 143, rfl⟩
abbrev main_call5_v7 : Ref sig .tc := ⟨.hbm, 144, rfl⟩
abbrev main_call5_v8 : Ref sig .tc := ⟨.hbm, 145, rfl⟩
abbrev main_call5_c_3 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_v12 : Ref sig .tc := ⟨.hbm, 150, rfl⟩
abbrev main_call5_v13 : Ref sig .tc := ⟨.hbm, 151, rfl⟩
abbrev main_call5_v14 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_c_20 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_call6_v5 : Ref sig .tc := ⟨.hbm, 168, rfl⟩
abbrev main_call6_v6 : Ref sig .tc := ⟨.hbm, 169, rfl⟩
abbrev main_call6_v7 : Ref sig .tc := ⟨.hbm, 170, rfl⟩
abbrev main_call6_v8 : Ref sig .tc := ⟨.hbm, 171, rfl⟩
abbrev main_call6_c : Ref sig .tc := ⟨.hbm, 172, rfl⟩
abbrev main_call6_v9 : Ref sig .tc := ⟨.hbm, 173, rfl⟩
abbrev main_call6_v10 : Ref sig .tc := ⟨.hbm, 174, rfl⟩
abbrev main_call6_v11 : Ref sig .tc := ⟨.hbm, 175, rfl⟩
abbrev main_call6_c_0 : Ref sig .tc := ⟨.hbm, 176, rfl⟩
abbrev main_call6_v12 : Ref sig .tc := ⟨.hbm, 177, rfl⟩
abbrev main_call6_v13 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_cst_21 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110_0 : Ref sig .tc := ⟨.hbm, 204, rfl⟩
abbrev main_v110_1 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1000x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2000000x6 : Shape := ⟨2, ![2000000, 6]⟩
abbrev S2000000 : Shape := ⟨1, ![2000000]⟩
abbrev S1 : Shape := ⟨1, ![1]⟩
abbrev S1x5 : Shape := ⟨2, ![1, 5]⟩
abbrev S128x40 : Shape := ⟨2, ![128, 40]⟩
abbrev S128 : Shape := ⟨1, ![128]⟩
abbrev S2000000x5 : Shape := ⟨2, ![2000000, 5]⟩
abbrev S_ : Shape := ⟨0, ![]⟩
abbrev S2000000x1 : Shape := ⟨2, ![2000000, 1]⟩
abbrev S100000 : Shape := ⟨1, ![100000]⟩
abbrev S100000x33x5 : Shape := ⟨3, ![100000, 33, 5]⟩
abbrev S2000000x2 : Shape := ⟨2, ![2000000, 2]⟩
abbrev S100000x32x5 : Shape := ⟨3, ![100000, 32, 5]⟩
abbrev S100000x32x1 : Shape := ⟨3, ![100000, 32, 1]⟩
abbrev S100000x32 : Shape := ⟨2, ![100000, 32]⟩
abbrev S100000x1 : Shape := ⟨2, ![100000, 1]⟩
abbrev S100000x5 : Shape := ⟨2, ![100000, 5]⟩
abbrev S100000x1x5 : Shape := ⟨3, ![100000, 1, 5]⟩
abbrev S100000x8x5 : Shape := ⟨3, ![100000, 8, 5]⟩
abbrev S100000x8 : Shape := ⟨2, ![100000, 8]⟩
abbrev S100000x8x1 : Shape := ⟨3, ![100000, 8, 1]⟩
abbrev S5x1 : Shape := ⟨2, ![5, 1]⟩
abbrev S100000x1x1 : Shape := ⟨3, ![100000, 1, 1]⟩
abbrev S100000x40 : Shape := ⟨2, ![100000, 40]⟩
abbrev S40x128 : Shape := ⟨2, ![40, 128]⟩
abbrev S100000x128 : Shape := ⟨2, ![100000, 128]⟩
abbrev S1x128 : Shape := ⟨2, ![1, 128]⟩

abbrev nBuf : Space → Nat
  | .hbm => 420
  | .vmem => 0
  | .smem => 0
  | _ => 0

abbrev hbmTy0_0 (i : Nat) : BufTy := match i % 128 with
  | 0 => ⟨S2000000x6, .f32⟩
  | 1 => ⟨S2000000, .i32⟩
  | 2 => ⟨S1, .i32⟩
  | 3 => ⟨S1x5, .f32⟩
  | 4 => ⟨S1x5, .f32⟩
  | 5 => ⟨S128x40, .f32⟩
  | 6 => ⟨S128, .f32⟩
  | 7 => ⟨S128, .f32⟩
  | 8 => ⟨S128, .f32⟩
  | 9 => ⟨S128, .f32⟩
  | 10 => ⟨S2000000x5, .f32⟩
  | 11 => ⟨S2000000, .i32⟩
  | 12 => ⟨S2000000, .i32⟩
  | 13 => ⟨S2000000, .i32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000, .i32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x5, .f32⟩
  | 32 => ⟨S_, .i32⟩
  | 33 => ⟨S100000, .i32⟩
  | 34 => ⟨S_, .i32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i1⟩
  | 41 => ⟨S_, .i32⟩
  | 42 => ⟨S2000000, .i32⟩
  | 43 => ⟨S2000000, .i32⟩
  | 44 => ⟨S2000000, .i32⟩
  | 45 => ⟨S2000000x1, .i32⟩
  | 46 => ⟨S_, .i32⟩
  | 47 => ⟨S2000000, .i32⟩
  | 48 => ⟨S100000, .i32⟩
  | 49 => ⟨S_, .i32⟩
  | 50 => ⟨S_, .i32⟩
  | 51 => ⟨S100000, .i32⟩
  | 52 => ⟨S100000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S_, .i32⟩
  | 69 => ⟨S2000000, .i32⟩
  | 70 => ⟨S2000000, .i32⟩
  | 71 => ⟨S_, .f32⟩
  | 72 => ⟨S100000x33x5, .f32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S_, .i32⟩
  | 81 => ⟨S2000000, .i32⟩
  | 82 => ⟨S2000000, .i1⟩
  | 83 => ⟨S_, .i32⟩
  | 84 => ⟨S2000000, .i32⟩
  | 85 => ⟨S2000000, .i32⟩
  | 86 => ⟨S2000000, .i32⟩
  | 87 => ⟨S2000000x1, .i32⟩
  | 88 => ⟨S2000000x1, .i32⟩
  | 89 => ⟨S2000000x2, .i32⟩
  | 90 => ⟨S100000x33x5, .f32⟩
  | 91 => ⟨S100000x32x5, .f32⟩
  | 92 => ⟨S100000x32x1, .f32⟩
  | 93 => ⟨S100000x32, .f32⟩
  | 94 => ⟨S_, .f32⟩
  | 95 => ⟨S100000x32, .f32⟩
  | 96 => ⟨S100000x32, .i1⟩
  | 97 => ⟨S_, .f32⟩
  | 98 => ⟨S100000x32, .f32⟩
  | 99 => ⟨S100000x32, .i1⟩
  | 100 => ⟨S100000x32, .i1⟩
  | 101 => ⟨S100000x32x1, .i1⟩
  | 102 => ⟨S100000x32x1, .f32⟩
  | 103 => ⟨S100000x32x5, .f32⟩
  | 104 => ⟨S100000x32x5, .f32⟩
  | 105 => ⟨S100000x32, .i32⟩
  | 106 => ⟨S_, .i32⟩
  | 107 => ⟨S100000, .i32⟩
  | 108 => ⟨S100000x1, .i32⟩
  | 109 => ⟨S100000x1, .f32⟩
  | 110 => ⟨S_, .f32⟩
  | 111 => ⟨S_, .f32⟩
  | 112 => ⟨S100000x1, .f32⟩
  | 113 => ⟨S100000x1, .f32⟩
  | 114 => ⟨S_, .f32⟩
  | 115 => ⟨S100000x5, .f32⟩
  | 116 => ⟨S100000x5, .f32⟩
  | 117 => ⟨S100000x5, .f32⟩
  | 118 => ⟨S100000x32, .i32⟩
  | 119 => ⟨S_, .i32⟩
  | 120 => ⟨S100000, .i32⟩
  | 121 => ⟨S_, .i32⟩
  | 122 => ⟨S100000, .i32⟩
  | 123 => ⟨S100000, .i1⟩
  | 124 => ⟨S100000x32x1, .f32⟩
  | 125 => ⟨S100000x32, .f32⟩
  | 126 => ⟨S_, .f32⟩
  | 127 => ⟨S100000x32, .f32⟩
  | _ => ⟨S2000000x6, .f32⟩

abbrev hbmTy0_1 (i : Nat) : BufTy := match i % 128 with
  | 0 => ⟨S100000x32, .i1⟩
  | 1 => ⟨S_, .f32⟩
  | 2 => ⟨S100000x32, .f32⟩
  | 3 => ⟨S100000x32, .i1⟩
  | 4 => ⟨S100000x32, .i1⟩
  | 5 => ⟨S100000x32x1, .i1⟩
  | 6 => ⟨S100000x32x1, .f32⟩
  | 7 => ⟨S100000x32x5, .f32⟩
  | 8 => ⟨S100000x32x5, .f32⟩
  | 9 => ⟨S100000x32, .i32⟩
  | 10 => ⟨S_, .i32⟩
  | 11 => ⟨S100000, .i32⟩
  | 12 => ⟨S100000x1, .i32⟩
  | 13 => ⟨S100000x1, .f32⟩
  | 14 => ⟨S_, .f32⟩
  | 15 => ⟨S_, .f32⟩
  | 16 => ⟨S100000x1, .f32⟩
  | 17 => ⟨S100000x1, .f32⟩
  | 18 => ⟨S_, .f32⟩
  | 19 => ⟨S100000x5, .f32⟩
  | 20 => ⟨S100000x5, .f32⟩
  | 21 => ⟨S100000x5, .f32⟩
  | 22 => ⟨S100000x32, .i32⟩
  | 23 => ⟨S_, .i32⟩
  | 24 => ⟨S100000, .i32⟩
  | 25 => ⟨S_, .i32⟩
  | 26 => ⟨S100000, .i32⟩
  | 27 => ⟨S100000, .i1⟩
  | 28 => ⟨S100000x32x1, .f32⟩
  | 29 => ⟨S100000x32, .f32⟩
  | 30 => ⟨S_, .f32⟩
  | 31 => ⟨S100000x32, .f32⟩
  | 32 => ⟨S100000x32, .i1⟩
  | 33 => ⟨S_, .f32⟩
  | 34 => ⟨S100000x32, .f32⟩
  | 35 => ⟨S100000x32, .i1⟩
  | 36 => ⟨S100000x32, .i1⟩
  | 37 => ⟨S100000x32x1, .i1⟩
  | 38 => ⟨S100000x32x1, .f32⟩
  | 39 => ⟨S100000x32x5, .f32⟩
  | 40 => ⟨S100000x32x5, .f32⟩
  | 41 => ⟨S100000x32, .i32⟩
  | 42 => ⟨S_, .i32⟩
  | 43 => ⟨S100000, .i32⟩
  | 44 => ⟨S100000x1, .i32⟩
  | 45 => ⟨S100000x1, .f32⟩
  | 46 => ⟨S_, .f32⟩
  | 47 => ⟨S_, .f32⟩
  | 48 => ⟨S100000x1, .f32⟩
  | 49 => ⟨S100000x1, .f32⟩
  | 50 => ⟨S_, .f32⟩
  | 51 => ⟨S100000x5, .f32⟩
  | 52 => ⟨S100000x5, .f32⟩
  | 53 => ⟨S100000x5, .f32⟩
  | 54 => ⟨S100000x32, .i32⟩
  | 55 => ⟨S_, .i32⟩
  | 56 => ⟨S100000, .i32⟩
  | 57 => ⟨S_, .i32⟩
  | 58 => ⟨S100000, .i32⟩
  | 59 => ⟨S100000, .i1⟩
  | 60 => ⟨S100000x32x1, .f32⟩
  | 61 => ⟨S100000x32, .f32⟩
  | 62 => ⟨S_, .f32⟩
  | 63 => ⟨S100000x32, .f32⟩
  | 64 => ⟨S100000x32, .i1⟩
  | 65 => ⟨S_, .f32⟩
  | 66 => ⟨S100000x32, .f32⟩
  | 67 => ⟨S100000x32, .i1⟩
  | 68 => ⟨S100000x32, .i1⟩
  | 69 => ⟨S100000x32x1, .i1⟩
  | 70 => ⟨S100000x32x1, .f32⟩
  | 71 => ⟨S100000x32x5, .f32⟩
  | 72 => ⟨S100000x32x5, .f32⟩
  | 73 => ⟨S100000x32, .i32⟩
  | 74 => ⟨S_, .i32⟩
  | 75 => ⟨S100000, .i32⟩
  | 76 => ⟨S100000x1, .i32⟩
  | 77 => ⟨S100000x1, .f32⟩
  | 78 => ⟨S_, .f32⟩
  | 79 => ⟨S_, .f32⟩
  | 80 => ⟨S100000x1, .f32⟩
  | 81 => ⟨S100000x1, .f32⟩
  | 82 => ⟨S_, .f32⟩
  | 83 => ⟨S100000x5, .f32⟩
  | 84 => ⟨S100000x5, .f32⟩
  | 85 => ⟨S100000x5, .f32⟩
  | 86 => ⟨S100000x32, .i32⟩
  | 87 => ⟨S_, .i32⟩
  | 88 => ⟨S100000, .i32⟩
  | 89 => ⟨S_, .i32⟩
  | 90 => ⟨S100000, .i32⟩
  | 91 => ⟨S100000, .i1⟩
  | 92 => ⟨S100000x32x1, .f32⟩
  | 93 => ⟨S100000x32, .f32⟩
  | 94 => ⟨S_, .f32⟩
  | 95 => ⟨S100000x32, .f32⟩
  | 96 => ⟨S100000x32, .i1⟩
  | 97 => ⟨S_, .f32⟩
  | 98 => ⟨S100000x32, .f32⟩
  | 99 => ⟨S100000x32, .i1⟩
  | 100 => ⟨S100000x32, .i1⟩
  | 101 => ⟨S100000x32x1, .i1⟩
  | 102 => ⟨S100000x32x1, .f32⟩
  | 103 => ⟨S100000x32x5, .f32⟩
  | 104 => ⟨S100000x32x5, .f32⟩
  | 105 => ⟨S100000x32, .i32⟩
  | 106 => ⟨S_, .i32⟩
  | 107 => ⟨S100000, .i32⟩
  | 108 => ⟨S100000x1, .i32⟩
  | 109 => ⟨S100000x1, .f32⟩
  | 110 => ⟨S_, .f32⟩
  | 111 => ⟨S_, .f32⟩
  | 112 => ⟨S100000x1, .f32⟩
  | 113 => ⟨S100000x1, .f32⟩
  | 114 => ⟨S_, .f32⟩
  | 115 => ⟨S100000x5, .f32⟩
  | 116 => ⟨S100000x5, .f32⟩
  | 117 => ⟨S100000x5, .f32⟩
  | 118 => ⟨S100000x32, .i32⟩
  | 119 => ⟨S_, .i32⟩
  | 120 => ⟨S100000, .i32⟩
  | 121 => ⟨S_, .i32⟩
  | 122 => ⟨S100000, .i32⟩
  | 123 => ⟨S100000, .i1⟩
  | 124 => ⟨S100000x32x1, .f32⟩
  | 125 => ⟨S100000x32, .f32⟩
  | 126 => ⟨S_, .f32⟩
  | 127 => ⟨S100000x32, .f32⟩
  | _ => ⟨S2000000x6, .f32⟩

abbrev hbmTy0_2 (i : Nat) : BufTy := match i % 128 with
  | 0 => ⟨S100000x32, .i1⟩
  | 1 => ⟨S_, .f32⟩
  | 2 => ⟨S100000x32, .f32⟩
  | 3 => ⟨S100000x32, .i1⟩
  | 4 => ⟨S100000x32, .i1⟩
  | 5 => ⟨S100000x32x1, .i1⟩
  | 6 => ⟨S100000x32x1, .f32⟩
  | 7 => ⟨S100000x32x5, .f32⟩
  | 8 => ⟨S100000x32x5, .f32⟩
  | 9 => ⟨S100000x32, .i32⟩
  | 10 => ⟨S_, .i32⟩
  | 11 => ⟨S100000, .i32⟩
  | 12 => ⟨S100000x1, .i32⟩
  | 13 => ⟨S100000x1, .f32⟩
  | 14 => ⟨S_, .f32⟩
  | 15 => ⟨S_, .f32⟩
  | 16 => ⟨S100000x1, .f32⟩
  | 17 => ⟨S100000x1, .f32⟩
  | 18 => ⟨S_, .f32⟩
  | 19 => ⟨S100000x5, .f32⟩
  | 20 => ⟨S100000x5, .f32⟩
  | 21 => ⟨S100000x5, .f32⟩
  | 22 => ⟨S100000x32, .i32⟩
  | 23 => ⟨S_, .i32⟩
  | 24 => ⟨S100000, .i32⟩
  | 25 => ⟨S_, .i32⟩
  | 26 => ⟨S100000, .i32⟩
  | 27 => ⟨S100000, .i1⟩
  | 28 => ⟨S100000x32x1, .f32⟩
  | 29 => ⟨S100000x32, .f32⟩
  | 30 => ⟨S_, .f32⟩
  | 31 => ⟨S100000x32, .f32⟩
  | 32 => ⟨S100000x32, .i1⟩
  | 33 => ⟨S_, .f32⟩
  | 34 => ⟨S100000x32, .f32⟩
  | 35 => ⟨S100000x32, .i1⟩
  | 36 => ⟨S100000x32, .i1⟩
  | 37 => ⟨S100000x32x1, .i1⟩
  | 38 => ⟨S100000x32x1, .f32⟩
  | 39 => ⟨S100000x32x5, .f32⟩
  | 40 => ⟨S100000x32x5, .f32⟩
  | 41 => ⟨S100000x32, .i32⟩
  | 42 => ⟨S_, .i32⟩
  | 43 => ⟨S100000, .i32⟩
  | 44 => ⟨S100000x1, .i32⟩
  | 45 => ⟨S100000x1, .f32⟩
  | 46 => ⟨S_, .f32⟩
  | 47 => ⟨S_, .f32⟩
  | 48 => ⟨S100000x1, .f32⟩
  | 49 => ⟨S100000x1, .f32⟩
  | 50 => ⟨S_, .f32⟩
  | 51 => ⟨S100000x5, .f32⟩
  | 52 => ⟨S100000x5, .f32⟩
  | 53 => ⟨S100000x5, .f32⟩
  | 54 => ⟨S100000x32, .i32⟩
  | 55 => ⟨S_, .i32⟩
  | 56 => ⟨S100000, .i32⟩
  | 57 => ⟨S_, .i32⟩
  | 58 => ⟨S100000, .i32⟩
  | 59 => ⟨S100000, .i1⟩
  | 60 => ⟨S100000x32x1, .f32⟩
  | 61 => ⟨S100000x32, .f32⟩
  | 62 => ⟨S_, .f32⟩
  | 63 => ⟨S100000x32, .f32⟩
  | 64 => ⟨S100000x32, .i1⟩
  | 65 => ⟨S_, .f32⟩
  | 66 => ⟨S100000x32, .f32⟩
  | 67 => ⟨S100000x32, .i1⟩
  | 68 => ⟨S100000x32, .i1⟩
  | 69 => ⟨S100000x32x1, .i1⟩
  | 70 => ⟨S100000x32x1, .f32⟩
  | 71 => ⟨S100000x32x5, .f32⟩
  | 72 => ⟨S100000x32x5, .f32⟩
  | 73 => ⟨S100000x32, .i32⟩
  | 74 => ⟨S_, .i32⟩
  | 75 => ⟨S100000, .i32⟩
  | 76 => ⟨S100000x1, .i32⟩
  | 77 => ⟨S100000x1, .f32⟩
  | 78 => ⟨S_, .f32⟩
  | 79 => ⟨S_, .f32⟩
  | 80 => ⟨S100000x1, .f32⟩
  | 81 => ⟨S100000x1, .f32⟩
  | 82 => ⟨S_, .f32⟩
  | 83 => ⟨S100000x5, .f32⟩
  | 84 => ⟨S100000x5, .f32⟩
  | 85 => ⟨S100000x5, .f32⟩
  | 86 => ⟨S100000x32, .i32⟩
  | 87 => ⟨S_, .i32⟩
  | 88 => ⟨S100000, .i32⟩
  | 89 => ⟨S_, .i32⟩
  | 90 => ⟨S100000, .i32⟩
  | 91 => ⟨S100000, .i1⟩
  | 92 => ⟨S100000x1x5, .f32⟩
  | 93 => ⟨S100000x1x5, .f32⟩
  | 94 => ⟨S100000x1x5, .f32⟩
  | 95 => ⟨S100000x1x5, .f32⟩
  | 96 => ⟨S100000x1x5, .f32⟩
  | 97 => ⟨S100000x1x5, .f32⟩
  | 98 => ⟨S100000x1x5, .f32⟩
  | 99 => ⟨S100000x1x5, .f32⟩
  | 100 => ⟨S100000x8x5, .f32⟩
  | 101 => ⟨S100000x1, .i1⟩
  | 102 => ⟨S100000x1, .i1⟩
  | 103 => ⟨S100000x1, .i1⟩
  | 104 => ⟨S100000x1, .i1⟩
  | 105 => ⟨S100000x1, .i1⟩
  | 106 => ⟨S100000x1, .i1⟩
  | 107 => ⟨S100000x1, .i1⟩
  | 108 => ⟨S100000x1, .i1⟩
  | 109 => ⟨S100000x8, .i1⟩
  | 110 => ⟨S100000x8x1, .i1⟩
  | 111 => ⟨S100000x8x5, .i1⟩
  | 112 => ⟨S100000x8x5, .f32⟩
  | 113 => ⟨S100000x8x5, .f32⟩
  | 114 => ⟨S5x1, .f32⟩
  | 115 => ⟨S100000x8x1, .f32⟩
  | 116 => ⟨S100000x8, .f32⟩
  | 117 => ⟨S_, .f32⟩
  | 118 => ⟨S100000x1, .f32⟩
  | 119 => ⟨S_, .f32⟩
  | 120 => ⟨S100000x1, .f32⟩
  | 121 => ⟨S_, .f32⟩
  | 122 => ⟨S100000x1, .f32⟩
  | 123 => ⟨S_, .f32⟩
  | 124 => ⟨S100000x1, .f32⟩
  | 125 => ⟨S_, .f32⟩
  | 126 => ⟨S100000x1, .f32⟩
  | 127 => ⟨S_, .f32⟩
  | _ => ⟨S2000000x6, .f32⟩

abbrev hbmTy0_3 (i : Nat) : BufTy := match i % 128 with
  | 0 => ⟨S100000x1, .f32⟩
  | 1 => ⟨S_, .f32⟩
  | 2 => ⟨S100000x1, .f32⟩
  | 3 => ⟨S_, .f32⟩
  | 4 => ⟨S100000x1, .f32⟩
  | 5 => ⟨S100000x1x1, .f32⟩
  | 6 => ⟨S100000x1x1, .f32⟩
  | 7 => ⟨S100000x1x1, .f32⟩
  | 8 => ⟨S100000x1x1, .f32⟩
  | 9 => ⟨S100000x1x1, .f32⟩
  | 10 => ⟨S100000x1x1, .f32⟩
  | 11 => ⟨S100000x1x1, .f32⟩
  | 12 => ⟨S100000x1x1, .f32⟩
  | 13 => ⟨S100000x8x1, .f32⟩
  | 14 => ⟨S100000x40, .f32⟩
  | 15 => ⟨S40x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S1x128, .f32⟩
  | 25 => ⟨S100000x128, .f32⟩
  | 26 => ⟨S100000x128, .f32⟩
  | 27 => ⟨S1x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | _ => ⟨S2000000x6, .f32⟩

abbrev hbmTy (i : Nat) : BufTy := match i / 128 with
  | 0 => hbmTy0_0 i
  | 1 => hbmTy0_1 i
  | 2 => hbmTy0_2 i
  | 3 => hbmTy0_3 i
  | _ => ⟨S2000000x6, .f32⟩

abbrev bufTy : (tb : Table) → Fin (tcTables nBuf tb) → BufTy
  | .hbm, ⟨i, _⟩ => hbmTy i
  | _, _ => ⟨S2000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1_0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_call2_call0_c : Ref sig .tc := ⟨.hbm, 49, rfl⟩
abbrev main_call2_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_8 : Ref sig .tc := ⟨.hbm, 54, rfl⟩
abbrev main_v29 : Ref sig .tc := ⟨.hbm, 55, rfl⟩
abbrev main_v30 : Ref sig .tc := ⟨.hbm, 56, rfl⟩
abbrev main_c_9 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_10 : Ref sig .tc := ⟨.hbm, 64, rfl⟩
abbrev main_v37 : Ref sig .tc := ⟨.hbm, 65, rfl⟩
abbrev main_v38 : Ref sig .tc := ⟨.hbm, 66, rfl⟩
abbrev main_c_11 : Ref sig .tc := ⟨.hbm, 67, rfl⟩
abbrev main_call3_v0 : Ref sig .tc := ⟨.hbm, 68, rfl⟩
abbrev main_call3_v1 : Ref sig .tc := ⟨.hbm, 69, rfl⟩
abbrev main_v39 : Ref sig .tc := ⟨.hbm, 70, rfl⟩
abbrev main_cst : Ref sig .tc := ⟨.hbm, 71, rfl⟩
abbrev main_v40 : Ref sig .tc := ⟨.hbm, 72, rfl⟩
abbrev main_c_12 : Ref sig .tc := ⟨.hbm, 73, rfl⟩
abbrev main_v41 : Ref sig .tc := ⟨.hbm, 74, rfl⟩
abbrev main_v42 : Ref sig .tc := ⟨.hbm, 75, rfl⟩
abbrev main_c_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_c_15 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_18 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_call4_v0 : Ref sig .tc := ⟨.hbm, 111, rfl⟩
abbrev main_call4_v1 : Ref sig .tc := ⟨.hbm, 112, rfl⟩
abbrev main_v71 : Ref sig .tc := ⟨.hbm, 113, rfl⟩
abbrev main_cst_20 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_c_21 : Ref sig .tc := ⟨.hbm, 119, rfl⟩
abbrev main_v76 : Ref sig .tc := ⟨.hbm, 120, rfl⟩
abbrev main_c_22 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_23 : Ref sig .tc := ⟨.hbm, 126, rfl⟩
abbrev main_v81 : Ref sig .tc := ⟨.hbm, 127, rfl⟩
abbrev main_v82 : Ref sig .tc := ⟨.hbm, 128, rfl⟩
abbrev main_cst_24 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_25 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_26 : Ref sig .tc := ⟨.hbm, 142, rfl⟩
abbrev main_call5_v0 : Ref sig .tc := ⟨.hbm, 143, rfl⟩
abbrev main_call5_v1 : Ref sig .tc := ⟨.hbm, 144, rfl⟩
abbrev main_v94 : Ref sig .tc := ⟨.hbm, 145, rfl⟩
abbrev main_cst_27 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_28 : Ref sig .tc := ⟨.hbm, 151, rfl⟩
abbrev main_v99 : Ref sig .tc := ⟨.hbm, 152, rfl⟩
abbrev main_c_29 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_30 : Ref sig .tc := ⟨.hbm, 158, rfl⟩
abbrev main_v104 : Ref sig .tc := ⟨.hbm, 159, rfl⟩
abbrev main_v105 : Ref sig .tc := ⟨.hbm, 160, rfl⟩
abbrev main_cst_31 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_c_32 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_33 : Ref sig .tc := ⟨.hbm, 174, rfl⟩
abbrev main_call6_v0 : Ref sig .tc := ⟨.hbm, 175, rfl⟩
abbrev main_call6_v1 : Ref sig .tc := ⟨.hbm, 176, rfl⟩
abbrev main_v117 : Ref sig .tc := ⟨.hbm, 177, rfl⟩
abbrev main_cst_34 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_c_35 : Ref sig .tc := ⟨.hbm, 183, rfl⟩
abbrev main_v122 : Ref sig .tc := ⟨.hbm, 184, rfl⟩
abbrev main_c_36 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_37 : Ref sig .tc := ⟨.hbm, 190, rfl⟩
abbrev main_v127 : Ref sig .tc := ⟨.hbm, 191, rfl⟩
abbrev main_v128 : Ref sig .tc := ⟨.hbm, 192, rfl⟩
abbrev main_cst_38 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_c_39 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_40 : Ref sig .tc := ⟨.hbm, 206, rfl⟩
abbrev main_call7_v0 : Ref sig .tc := ⟨.hbm, 207, rfl⟩
abbrev main_call7_v1 : Ref sig .tc := ⟨.hbm, 208, rfl⟩
abbrev main_v140 : Ref sig .tc := ⟨.hbm, 209, rfl⟩
abbrev main_cst_41 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_c_42 : Ref sig .tc := ⟨.hbm, 215, rfl⟩
abbrev main_v145 : Ref sig .tc := ⟨.hbm, 216, rfl⟩
abbrev main_c_43 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_44 : Ref sig .tc := ⟨.hbm, 222, rfl⟩
abbrev main_v150 : Ref sig .tc := ⟨.hbm, 223, rfl⟩
abbrev main_v151 : Ref sig .tc := ⟨.hbm, 224, rfl⟩
abbrev main_cst_45 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_c_46 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_47 : Ref sig .tc := ⟨.hbm, 238, rfl⟩
abbrev main_call8_v0 : Ref sig .tc := ⟨.hbm, 239, rfl⟩
abbrev main_call8_v1 : Ref sig .tc := ⟨.hbm, 240, rfl⟩
abbrev main_v163 : Ref sig .tc := ⟨.hbm, 241, rfl⟩
abbrev main_cst_48 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_c_49 : Ref sig .tc := ⟨.hbm, 247, rfl⟩
abbrev main_v168 : Ref sig .tc := ⟨.hbm, 248, rfl⟩
abbrev main_c_50 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_cst_51 : Ref sig .tc := ⟨.hbm, 254, rfl⟩
abbrev main_v173 : Ref sig .tc := ⟨.hbm, 255, rfl⟩
abbrev main_v174 : Ref sig .tc := ⟨.hbm, 256, rfl⟩
abbrev main_cst_52 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_c_53 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_cst_54 : Ref sig .tc := ⟨.hbm, 270, rfl⟩
abbrev main_call9_v0 : Ref sig .tc := ⟨.hbm, 271, rfl⟩
abbrev main_call9_v1 : Ref sig .tc := ⟨.hbm, 272, rfl⟩
abbrev main_v186 : Ref sig .tc := ⟨.hbm, 273, rfl⟩
abbrev main_cst_55 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_c_56 : Ref sig .tc := ⟨.hbm, 279, rfl⟩
abbrev main_v191 : Ref sig .tc := ⟨.hbm, 280, rfl⟩
abbrev main_c_57 : Ref sig .tc := ⟨.hbm, 281, rfl⟩
abbrev main_v192 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_cst_58 : Ref sig .tc := ⟨.hbm, 286, rfl⟩
abbrev main_v196 : Ref sig .tc := ⟨.hbm, 287, rfl⟩
abbrev main_v197 : Ref sig .tc := ⟨.hbm, 288, rfl⟩
abbrev main_cst_59 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_c_60 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_cst_61 : Ref sig .tc := ⟨.hbm, 302, rfl⟩
abbrev main_call10_v0 : Ref sig .tc := ⟨.hbm, 303, rfl⟩
abbrev main_call10_v1 : Ref sig .tc := ⟨.hbm, 304, rfl⟩
abbrev main_v209 : Ref sig .tc := ⟨.hbm, 305, rfl⟩
abbrev main_cst_62 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_c_63 : Ref sig .tc := ⟨.hbm, 311, rfl⟩
abbrev main_v214 : Ref sig .tc := ⟨.hbm, 312, rfl⟩
abbrev main_c_64 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_cst_65 : Ref sig .tc := ⟨.hbm, 318, rfl⟩
abbrev main_v219 : Ref sig .tc := ⟨.hbm, 319, rfl⟩
abbrev main_v220 : Ref sig .tc := ⟨.hbm, 320, rfl⟩
abbrev main_cst_66 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_c_67 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_cst_68 : Ref sig .tc := ⟨.hbm, 334, rfl⟩
abbrev main_call11_v0 : Ref sig .tc := ⟨.hbm, 335, rfl⟩
abbrev main_call11_v1 : Ref sig .tc := ⟨.hbm, 336, rfl⟩
abbrev main_v232 : Ref sig .tc := ⟨.hbm, 337, rfl⟩
abbrev main_cst_69 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_c_70 : Ref sig .tc := ⟨.hbm, 343, rfl⟩
abbrev main_v237 : Ref sig .tc := ⟨.hbm, 344, rfl⟩
abbrev main_c_71 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_v250 : Ref sig .tc := ⟨.hbm, 358, rfl⟩
abbrev main_v251 : Ref sig .tc := ⟨.hbm, 359, rfl⟩
abbrev main_v252 : Ref sig .tc := ⟨.hbm, 360, rfl⟩
abbrev main_v253 : Ref sig .tc := ⟨.hbm, 361, rfl⟩
abbrev main_v254 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_call12_v0 : Ref sig .tc := ⟨.hbm, 367, rfl⟩
abbrev main_call12_v1 : Ref sig .tc := ⟨.hbm, 368, rfl⟩
abbrev main_v259 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_cst_72 : Ref sig .tc := ⟨.hbm, 373, rfl⟩
abbrev main_v263 : Ref sig .tc := ⟨.hbm, 374, rfl⟩
abbrev main_cst_73 : Ref sig .tc := ⟨.hbm, 375, rfl⟩
abbrev main_v264 : Ref sig .tc := ⟨.hbm, 376, rfl⟩
abbrev main_cst_74 : Ref sig .tc := ⟨.hbm, 377, rfl⟩
abbrev main_v265 : Ref sig .tc := ⟨.hbm, 378, rfl⟩
abbrev main_cst_75 : Ref sig .tc := ⟨.hbm, 379, rfl⟩
abbrev main_v266 : Ref sig .tc := ⟨.hbm, 380, rfl⟩
abbrev main_cst_76 : Ref sig .tc := ⟨.hbm, 381, rfl⟩
abbrev main_v267 : Ref sig .tc := ⟨.hbm, 382, rfl⟩
abbrev main_cst_77 : Ref sig .tc := ⟨.hbm, 383, rfl⟩
abbrev main_v268 : Ref sig .tc := ⟨.hbm, 384, rfl⟩
abbrev main_cst_78 : Ref sig .tc := ⟨.hbm, 385, rfl⟩
abbrev main_v269 : Ref sig .tc := ⟨.hbm, 386, rfl⟩
abbrev main_cst_79 : Ref sig .tc := ⟨.hbm, 387, rfl⟩
abbrev main_v270 : Ref sig .tc := ⟨.hbm, 388, rfl⟩
abbrev main_v271 : Ref sig .tc := ⟨.hbm, 389, rfl⟩
abbrev main_v272 : Ref sig .tc := ⟨.hbm, 390, rfl⟩
abbrev main_v273 : Ref sig .tc := ⟨.hbm, 391, rfl⟩
abbrev main_v274 : Ref sig .tc := ⟨.hbm, 392, rfl⟩
abbrev main_v275 : Ref sig .tc := ⟨.hbm, 393, rfl⟩
abbrev main_v276 : Ref sig .tc := ⟨.hbm, 394, rfl⟩
abbrev main_v277 : Ref sig .tc := ⟨.hbm, 395, rfl⟩
abbrev main_v278 : Ref sig .tc := ⟨.hbm, 396, rfl⟩
abbrev main_v279 : Ref sig .tc := ⟨.hbm, 397, rfl⟩
abbrev main_v280 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_cst_80 : Ref sig .tc := ⟨.hbm, 404, rfl⟩
abbrev main_v286 : Ref sig .tc := ⟨.hbm, 405, rfl⟩
abbrev main_v287 : Ref sig .tc := ⟨.hbm, 406, rfl⟩
abbrev main_v288 : Ref sig .tc := ⟨.hbm, 407, rfl⟩
abbrev main_v289 : Ref sig .tc := ⟨.hbm, 408, rfl⟩
abbrev main_v290 : Ref sig .tc := ⟨.hbm, 409, rfl⟩
abbrev main_v291 : Ref sig .tc := ⟨.hbm, 410, rfl⟩
abbrev main_v292 : Ref sig .tc := ⟨.hbm, 411, rfl⟩
abbrev main_v293 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_call13_cst : Ref sig .tc := ⟨.hbm, 417, rfl⟩
abbrev main_call13_v0 : Ref sig .tc := ⟨.hbm, 418, rfl⟩
abbrev main_v298 : Ref sig .tc := ⟨.hbm, 419, rfl⟩

abbrev nD : Nat := 1
abbrev τ : Topo := Topo.v7x

variable {F : FTy → Type} [FloatOps F]
-- ==== Proof.Spec.lean ====
/- What both programs compute, row by row, as functions of one pillar's slots: the indicator of a bin, its
   count, the sum and mean of the points in it, the features with the embedding where a bin is empty, the attention
   score and the normalised linear layer. No program is named here; the last section holds the sums that move a
   contraction with a 0/1 matrix to a sum over slots. -/
module

public import Idealize.ShloMosaic.Lib.Pointwise

@[expose] public section

noncomputable section

namespace Cert.Bins

open Idealize.ShloMosaic

/-! ## The mathematics of one pillar -/

/-- The words of the bins' lower edges, `-5, -4, …, 2`. -/
def loWord : Fin 8 → BitVec 32 :=
  ![0xC0A00000#32, 0xC0800000#32, 0xC0400000#32, 0xC0000000#32, 0xBF800000#32, 0x00000000#32, 0x3F800000#32, 0x40000000#32]

/-- The words of the bins' upper edges, `-4, -3, …, 3`. -/
def hiWord : Fin 8 → BitVec 32 :=
  ![0xC0800000#32, 0xC0400000#32, 0xC0000000#32, 0xBF800000#32, 0x00000000#32, 0x3F800000#32, 0x40000000#32, 0x40400000#32]

/-- Bin `b`'s lower edge. -/
def lo (b : Fin 8) : EReal := Ideal.ofBits .f32 (loWord b)

/-- Bin `b`'s upper edge. -/
def hi (b : Fin 8) : EReal := Ideal.ofBits .f32 (hiWord b)

/-- One where `z` lies strictly between `l` and `h`, else zero. -/
def ind (l h z : EReal) : EReal := if l < z ∧ z < h then 1 else 0

/-- How many of the slots whose heights are `z` lie between `l` and `h`. -/
def cnt (l h : EReal) (z : Fin 32 → EReal) : EReal := ∑ s, ind l h (z s)

/-- The sum of channel `c` over the slots of `D` whose height, channel 2, lies between `l` and `h`. -/
def tot (l h : EReal) (D : Fin 32 → Fin 5 → EReal) (c : Fin 5) : EReal := ∑ s, D s c * ind l h (D s 2)

/-- Bin `b`'s feature `c`: the mean of its points where it has any, the embedding `e` where it has none. -/
def feat (D : Fin 32 → Fin 5 → EReal) (e : Fin 5 → EReal) (b : Fin 8) (c : Fin 5) : EReal :=
  if 0 < cnt (lo b) (hi b) (fun s => D s 2) then
    Ideal.div (tot (lo b) (hi b) D c) (max (cnt (lo b) (hi b) fun s => D s 2) 1)
  else e c

/-- The bin that column `j` of the 40 features belongs to. -/
def bin (j : Fin 40) : Fin 8 := ⟨j / 5, by omega⟩

/-- The channel that column `j` of the 40 features belongs to. -/
def chan (j : Fin 40) : Fin 5 := ⟨j % 5, by omega⟩

/-- Bin `b`'s attention score: its features against the weights `w`. -/
def attn (D : Fin 32 → Fin 5 → EReal) (e w : Fin 5 → EReal) (b : Fin 8) : EReal := ∑ c, feat D e b c * w c

/-- The linear layer's value for one output channel with weights `W`. -/
def lin (D : Fin 32 → Fin 5 → EReal) (e : Fin 5 → EReal) (W : Fin 40 → EReal) : EReal :=
  ∑ j, feat D e (bin j) (chan j) * W j

/-- The small number added to a variance. -/
def eps : EReal := Ideal.ofBits .f32 0x3A83126F#32

/-- The normalisation and rectifier, dividing by the square root of the variance. -/
def norm (l rm rv g bt : EReal) : EReal := max (Ideal.div (l - rm) (Ideal.sqrt (rv + eps)) * g + bt) 0

/-! ## The normalisation written with a reciprocal square root -/

/-- Where `r` is positive, dividing by `√r` and then scaling by `g` is multiplying by `g` times `1 / √r`. -/
theorem mul_rsqrt (a g r : EReal) (hr : 0 < r) : a * (g * Ideal.rsqrt r) = Ideal.div a (Ideal.sqrt r) * g := by
  induction r with
  | bot => simp at hr
  | top =>
    have : Ideal.div a ⊤ = 0 := by simp [Ideal.div]
    simp [this]
  | coe x =>
    have hx : 0 < x := by exact_mod_cast hr
    have hs : 0 < Real.sqrt x := Real.sqrt_pos.mpr hx
    have hne : (Real.sqrt x : EReal) ≠ 0 := by exact_mod_cast hs.ne'
    rw [Ideal.rsqrt_coe, Ideal.sqrt_coe, if_neg hx.not_gt, if_neg hx.ne', if_neg hx.not_gt, Ideal.div, if_neg hne,
      EReal.coe_inv, mul_comm g, ← mul_assoc]

/-- The reciprocal form of the normalisation is `norm` where the variance plus `eps` is positive. -/
theorem norm_rsqrt (l rm rv g bt : EReal) (hr : 0 < rv + eps) :
    max ((l - rm) * (g * Ideal.rsqrt (rv + eps)) + bt) 0 = norm l rm rv g bt := by
  rw [mul_rsqrt _ _ _ hr, norm]

/-! ## Sums against 0/1 matrices -/

/-- The column of slot `s`'s channel `c` in a row of 160. -/
def col (s : Fin 32) (c : Fin 5) : Fin 160 := ⟨5 * s + c, by omega⟩

/-- A sum over the 160 columns is one over slots and channels. -/
theorem sum_col (f : Fin 160 → EReal) : ∑ j, f j = ∑ s : Fin 32, ∑ c : Fin 5, f (col s c) := by
  rw [← Fintype.sum_prod_type']
  refine (Fintype.sum_equiv (finProdFinEquiv (m := 32) (n := 5)) _ _ fun p => congrArg f ?_).symm
  apply Fin.ext; simp [col, finProdFinEquiv]; omega

/-- A sum over the 40 columns is one over bins and channels. -/
theorem sum_col40 (f : Fin 40 → EReal) : ∑ j, f j = ∑ b : Fin 8, ∑ c : Fin 5, f ⟨5 * b + c, by omega⟩ := by
  rw [← Fintype.sum_prod_type']
  refine (Fintype.sum_equiv (finProdFinEquiv (m := 8) (n := 5)) _ _ fun p => congrArg f ?_).symm
  apply Fin.ext; simp [finProdFinEquiv]; omega

/-- Spreading the slots' values over the columns (a product with the 0/1 matrix of `j / 5 = s`) reads the slot of the
    column. -/
theorem sum_spread (g : Fin 32 → EReal) (R : Fin 32 → Fin 160 → EReal)
    (hR : ∀ s j, R s j = if j.val / 5 = s.val then 1 else 0) (j : Fin 160) :
    ∑ s, g s * R s j = g ⟨j / 5, by omega⟩ := by
  rw [Finset.sum_eq_single (⟨j / 5, by omega⟩ : Fin 32)]
  · rw [hR, if_pos rfl, mul_one]
  · intro s _ hs
    rw [hR, if_neg, mul_zero]
    exact fun h => hs (Fin.ext h.symm)
  · exact fun h => absurd (Finset.mem_univ _) h

/-- Collecting a channel (a product with the 0/1 matrix of `j % 5 = c`) is the sum over the slots. -/
theorem sum_collect (f : Fin 160 → EReal) (S : Fin 160 → EReal) (c : Fin 5)
    (hS : ∀ j, S j = if j.val % 5 = c.val then 1 else 0) :
    ∑ j, f j * S j = ∑ s, f (col s c) := by
  rw [sum_col]
  refine Finset.sum_congr rfl fun s _ => ?_
  rw [Finset.sum_eq_single c]
  · rw [hS, if_pos (by simp [col]), mul_one]
  · intro c' _ hc
    rw [hS, if_neg, mul_zero]
    intro h; apply hc; apply Fin.ext; simp [col] at h; omega
  · exact fun h => absurd (Finset.mem_univ _) h

/-- Picking the height (a product with the 0/1 matrix of `j = 5 s + 2`) reads channel 2 of the slot. -/
theorem sum_height (f : Fin 160 → EReal) (E : Fin 160 → EReal) (s : Fin 32)
    (hE : ∀ j, E j = if j.val = 5 * s.val + 2 then 1 else 0) :
    ∑ j, f j * E j = f (col s 2) := by
  rw [Finset.sum_eq_single (col s 2)]
  · rw [hE, if_pos (by simp [col]), mul_one]
  · intro j _ hj
    rw [hE, if_neg, mul_zero]
    exact fun h => hj (Fin.ext (by simp [col, h]))
  · exact fun h => absurd (Finset.mem_univ _) h

/-- Collecting a bin (a product with the 0/1 matrix of `j / 5 = b`) is the sum over the bin's channels. -/
theorem sum_bin (f : Fin 40 → EReal) (S : Fin 40 → EReal) (b : Fin 8)
    (hS : ∀ j, S j = if j.val / 5 = b.val then 1 else 0) :
    ∑ j, f j * S j = ∑ c : Fin 5, f ⟨5 * b + c, by omega⟩ := by
  rw [sum_col40, Finset.sum_eq_single b]
  · refine Finset.sum_congr rfl fun c _ => ?_
    rw [hS, if_pos (by show (5 * b.val + c.val) / 5 = b.val; omega), mul_one]
  · intro b' _ hb
    refine Finset.sum_eq_zero fun c _ => ?_
    rw [hS, if_neg, mul_zero]
    intro h; apply hb; apply Fin.ext
    have h' : (5 * b'.val + c.val) / 5 = b.val := h
    omega
  · exact fun h => absurd (Finset.mem_univ _) h

/-- A bin's sum as the three products make it: the indicators spread over the columns, multiplied in, collected. -/
theorem tot_eq (l h : EReal) (x : Fin 160 → EReal) (z : Fin 32 → EReal) (hz : ∀ s, z s = x (col s 2))
    (R : Fin 32 → Fin 160 → EReal) (hR : ∀ s j, R s j = if j.val / 5 = s.val then 1 else 0)
    (S : Fin 160 → EReal) (c : Fin 5) (hS : ∀ j, S j = if j.val % 5 = c.val then 1 else 0) :
    ∑ j, (x j * ∑ s, ind l h (z s) * R s j) * S j = tot l h (fun s c => x (col s c)) c := by
  rw [sum_collect _ S c hS, tot]
  refine Finset.sum_congr rfl fun s _ => ?_
  rw [sum_spread (fun s => ind l h (z s)) R hR]
  have : (⟨(col s c).val / 5, by omega⟩ : Fin 32) = s := Fin.ext (by show (5 * s.val + c.val) / 5 = s.val; omega)
  rw [this, hz]

end Cert.Bins

end
-- ==== Proof.Block.lean ====
/- What one grid step writes, read down to the mathematics of one pillar: each of the eight bins' sums and counts
   from the step's three matrix products, the concatenations of the eight, and the two blocks the step stores. -/
module

public import proofs.«01_k».proof.Proof.Gen.KernelIdeal.Frame
public import proofs.«01_k».proof.Proof.Spec

@[expose] public section

set_option maxRecDepth 16384

noncomputable section

namespace Cert.KernelIdeal.Block

open Idealize.ShloMosaic Cert.KernelIdeal Cert.KernelIdeal.Gen Cert.Bins

/-- The indicator as the step makes it — two comparisons, their conjunction, widened and made a float. -/
theorem ind_word (l h z : EReal) :
    (FloatOps.sitofp .f32 (BitVec.setWidth 32 (IntOp.andi (BitVec.ofBool (decide (l < z))) (BitVec.ofBool (decide (z < h))))) : Ideal .f32) =
      ind l h z := by
  unfold ind
  by_cases h1 : l < z <;> by_cases h2 : z < h <;> simp only [h1, h2, decide_true, decide_false, and_true, and_false, true_and, false_and, if_true, if_false]
  · show (((1#32).toInt : ℝ) : EReal) = 1
    simp
  all_goals
    show (((0#32).toInt : ℝ) : EReal) = 0
    simp

section
variable (v1 : FVec Ideal S1000x160 .f32) (v4 : FVec Ideal S1000x32 .f32) (x1 : Vec Ideal S160x32 .f32)
  (x2 : Vec Ideal S32x160 .f32) (x3 : Vec Ideal S160x8 .f32) (r : Fin 1000) (c : Fin 5)

/-- The heights of row `r`'s slots: the product with the 0/1 matrix reads channel 2. -/
theorem height (h1 : ∀ j s, x1 (ix2 j s) = if j.val = 5 * s.val + 2 then 1 else 0) (s : Fin 32) :
    k0_pay3 v1 x1 (ix2 r s) = v1 (ix2 r (col s 2)) := by
  pointwise [k0_pay2, k0_pay3]
  exact sum_height (fun j => v1 (ix2 r j)) (fun j => x1 (ix2 j s)) s fun j => h1 j s

variable (hz : ∀ s, v4 (ix2 r s) = v1 (ix2 r (col s 2)))
  (h2 : ∀ s j, x2 (ix2 s j) = if j.val / 5 = s.val then 1 else 0)
  (h3 : ∀ j q, x3 (ix2 j q) = if j.val % 5 = q.val then 1 else 0)

/-- Row `r`'s slots, from the row of 160 columns. -/
abbrev slots : Fin 32 → Fin 5 → EReal := fun s c => v1 (ix2 r (col s c))

include hz h2 h3 in
/-- A bin's sum, read from the step's products. -/
theorem bin_sum (l h : EReal) (hq : c.val < 8) :
    ∑ j, (v1 (ix2 r j) * ∑ s, ind l h (v4 (ix2 r s)) * x2 (ix2 s j)) * x3 (ix2 j ⟨c, hq⟩) = tot l h (slots v1 r) c :=
  tot_eq l h (fun j => v1 (ix2 r j)) (fun s => v4 (ix2 r s)) hz (fun s j => x2 (ix2 s j)) (fun s j => h2 s j)
    (fun j => x3 (ix2 j ⟨c, hq⟩)) c fun j => h3 j _

include hz h2 h3 in
/-- The third bin's sum. -/
theorem sum2 : k0_pay13 v1 v4 x2 x3 (ix2 r c) = tot (lo 2) (hi 2) (slots v1 r) c := by
  pointwise [k0_pay13, k0_pay12]
  simp only [ind_word]
  exact bin_sum v1 v4 x2 x3 r c hz h2 h3 _ _ _

include hz h2 h3 in
/-- The fourth bin's sum. -/
theorem sum3 : k0_pay16 v1 v4 x2 x3 (ix2 r c) = tot (lo 3) (hi 3) (slots v1 r) c := by
  pointwise [k0_pay16, k0_pay15]
  simp only [ind_word]
  exact bin_sum v1 v4 x2 x3 r c hz h2 h3 _ _ _

include hz h2 h3 in
/-- The fifth bin's sum. -/
theorem sum4 : k0_pay20 v1 v4 x2 x3 (ix2 r c) = tot (lo 4) (hi 4) (slots v1 r) c := by
  rw [show hi 4 = 0 from Ideal.ofBits_zero_f32]
  pointwise [k0_pay20, k0_pay19]
  simp only [ind_word]
  exact bin_sum v1 v4 x2 x3 r c hz h2 h3 _ _ _

include hz h2 h3 in
/-- The sixth bin's sum. -/
theorem sum5 : k0_pay23 v1 v4 x2 x3 (ix2 r c) = tot (lo 5) (hi 5) (slots v1 r) c := by
  rw [show lo 5 = 0 from Ideal.ofBits_zero_f32, show hi 5 = 1 from Ideal.ofBits_one_f32]
  pointwise [k0_pay23, k0_pay22]
  simp only [ind_word]
  exact bin_sum v1 v4 x2 x3 r c hz h2 h3 _ _ _

include h2 h3 in
/-- The first bin's sum. -/
theorem sum0 (h1 : ∀ j s, x1 (ix2 j s) = if j.val = 5 * s.val + 2 then 1 else 0) :
    k0_pay5 v1 x1 x2 x3 (ix2 r c) = tot (lo 0) (hi 0) (slots v1 r) c := by
  have hz := height v1 x1 r h1
  generalize hv : k0_pay3 v1 x1 = v4 at hz
  pointwise [k0_pay5, k0_pay4, k0_pay2, hv]
  simp only [ind_word]
  exact bin_sum v1 v4 x2 x3 r c hz h2 h3 _ _ _

include h2 h3 in
/-- The second bin's sum. -/
theorem sum1 (h1 : ∀ j s, x1 (ix2 j s) = if j.val = 5 * s.val + 2 then 1 else 0) :
    k0_pay10 (k0_pay8 v1 x1 x2) (k0_pay9 x3) (constant S1000x8 .f32 0x00000000#32) (ix2 r c) =
      tot (lo 1) (hi 1) (slots v1 r) c := by
  have hz := height v1 x1 r h1
  generalize hv : k0_pay3 v1 x1 = v4 at hz
  pointwise [k0_pay10, k0_pay9, k0_pay8, k0_pay7, k0_pay2, hv]
  simp only [ind_word]
  exact bin_sum v1 v4 x2 x3 r c hz h2 h3 _ _ _

/-! ## The counts -/

/-- The first bin's count. -/
theorem cnt0 : k0_pay6 v1 x1 (ix2 r c) = cnt (lo 0) (hi 0) fun s => k0_pay3 v1 x1 (ix2 r s) := by
  generalize hv : k0_pay3 v1 x1 = v4
  pointwise [k0_pay6, k0_pay4, hv]
  simp only [ind_word]
  rfl

/-- The second bin's count. -/
theorem cnt1 : k0_pay11 (k0_pay7 v1 x1) (ix2 r c) = cnt (lo 1) (hi 1) fun s => k0_pay3 v1 x1 (ix2 r s) := by
  generalize hv : k0_pay3 v1 x1 = v4
  pointwise [k0_pay11, k0_pay7, hv]
  simp only [ind_word]
  rfl

/-- The third bin's count. -/
theorem cnt2 : k0_pay14 v4 (ix2 r c) = cnt (lo 2) (hi 2) fun s => v4 (ix2 r s) := by
  pointwise [k0_pay14, k0_pay12]
  simp only [ind_word]
  rfl

/-- The fourth bin's count. -/
theorem cnt3 : k0_pay18 (k0_pay17 v4) (ix2 r c) = cnt (lo 3) (hi 3) fun s => v4 (ix2 r s) := by
  pointwise [k0_pay18, k0_pay17, k0_pay15]
  simp only [ind_word]
  rfl

/-- The fifth bin's count. -/
theorem cnt4 : k0_pay21 v4 (ix2 r c) = cnt (lo 4) (hi 4) fun s => v4 (ix2 r s) := by
  rw [show hi 4 = 0 from Ideal.ofBits_zero_f32]
  pointwise [k0_pay21, k0_pay19]
  simp only [ind_word]
  rfl

/-- The sixth bin's count. -/
theorem cnt5 : k0_pay24 v4 (ix2 r c) = cnt (lo 5) (hi 5) fun s => v4 (ix2 r s) := by
  rw [show lo 5 = 0 from Ideal.ofBits_zero_f32, show hi 5 = 1 from Ideal.ofBits_one_f32]
  pointwise [k0_pay24, k0_pay22]
  simp only [ind_word]
  rfl

end

/-- The eight pieces of a row of 40 columns are the eight bins' channels. -/
theorem pick (f : Fin 8 → Fin 5 → EReal) (q : Fin 40) (b : Fin 8) (c : Fin 5) (h : q.val = 5 * b.val + c.val) :
    f b c = f (bin q) (chan q) := by
  congr 1 <;> apply Fin.ext <;> simp [bin, chan] <;> omega

/-- Eight pieces side by side, read at one column. -/
theorem concat8 (r : Fin 1000) (a0 a1 a2 a3 a4 a5 a6 a7 : FVec Ideal S1000x5 .f32) (q : Fin 40) (f : Fin 8 → Fin 5 → EReal)
    (e0 : ∀ c, a0 (ix2 r c) = f 0 c) (e1 : ∀ c, a1 (ix2 r c) = f 1 c) (e2 : ∀ c, a2 (ix2 r c) = f 2 c)
    (e3 : ∀ c, a3 (ix2 r c) = f 3 c) (e4 : ∀ c, a4 (ix2 r c) = f 4 c) (e5 : ∀ c, a5 (ix2 r c) = f 5 c)
    (e6 : ∀ c, a6 (ix2 r c) = f 6 c) (e7 : ∀ c, a7 (ix2 r c) = f 7 c) :
    concatenate S1000x40 1 [⟨S1000x5, a0⟩, ⟨S1000x5, a1⟩, ⟨S1000x5, a2⟩, ⟨S1000x5, a3⟩, ⟨S1000x5, a4⟩, ⟨S1000x5, a5⟩,
      ⟨S1000x5, a6⟩, ⟨S1000x5, a7⟩] concatenates_S1000x5_S1000x5_S1000x5_S1000x5_S1000x5_S1000x5_S1000x5_S1000x5_S1000x40_d1
      (ix2 r q) = f (bin q) (chan q) := by
  pointwise
  by_cases g0 : q.val < 5
  · rw [dif_pos g0]
    exact (e0 _).trans (pick f q 0 _ (by simp <;> omega))
  rw [dif_neg g0]
  by_cases g1 : q.val - 5 < 5
  · rw [dif_pos g1]
    exact (e1 _).trans (pick f q 1 _ (by simp <;> omega))
  rw [dif_neg g1]
  by_cases g2 : q.val - 5 - 5 < 5
  · rw [dif_pos g2]
    exact (e2 _).trans (pick f q 2 _ (by simp <;> omega))
  rw [dif_neg g2]
  by_cases g3 : q.val - 5 - 5 - 5 < 5
  · rw [dif_pos g3]
    exact (e3 _).trans (pick f q 3 _ (by simp <;> omega))
  rw [dif_neg g3]
  by_cases g4 : q.val - 5 - 5 - 5 - 5 < 5
  · rw [dif_pos g4]
    exact (e4 _).trans (pick f q 4 _ (by simp <;> omega))
  rw [dif_neg g4]
  by_cases g5 : q.val - 5 - 5 - 5 - 5 - 5 < 5
  · rw [dif_pos g5]
    exact (e5 _).trans (pick f q 5 _ (by simp <;> omega))
  rw [dif_neg g5]
  by_cases g6 : q.val - 5 - 5 - 5 - 5 - 5 - 5 < 5
  · rw [dif_pos g6]
    exact (e6 _).trans (pick f q 6 _ (by simp <;> omega))
  rw [dif_neg g6]
  exact (e7 _).trans (pick f q 7 _ (by simp; omega))

section
variable (v1 : FVec Ideal S1000x160 .f32) (v4 : FVec Ideal S1000x32 .f32)
  (x2 : Vec Ideal S32x160 .f32) (x3 : Vec Ideal S160x8 .f32) (r : Fin 1000)
  (a0 a1 a2 a3 a4 a5 : FVec Ideal S1000x5 .f32) (q : Fin 40)

/-- The eight bins' sums side by side. -/
theorem sums (hz : ∀ s, v4 (ix2 r s) = v1 (ix2 r (col s 2)))
    (h2 : ∀ s j, x2 (ix2 s j) = if j.val / 5 = s.val then 1 else 0)
    (h3 : ∀ j q, x3 (ix2 j q) = if j.val % 5 = q.val then 1 else 0)
    (e0 : ∀ c, a0 (ix2 r c) = tot (lo 0) (hi 0) (slots v1 r) c) (e1 : ∀ c, a1 (ix2 r c) = tot (lo 1) (hi 1) (slots v1 r) c)
    (e2 : ∀ c, a2 (ix2 r c) = tot (lo 2) (hi 2) (slots v1 r) c) (e3 : ∀ c, a3 (ix2 r c) = tot (lo 3) (hi 3) (slots v1 r) c)
    (e4 : ∀ c, a4 (ix2 r c) = tot (lo 4) (hi 4) (slots v1 r) c) (e5 : ∀ c, a5 (ix2 r c) = tot (lo 5) (hi 5) (slots v1 r) c) :
    k0_pay27 v1 v4 a0 a1 a2 a3 a4 a5 (Scalar.ofBits .f32 0x3F800000#32) x2 x3 x2 x3 (ix2 r q) =
      tot (lo (bin q)) (hi (bin q)) (slots v1 r) (chan q) := by
  unfold k0_pay27
  refine concat8 r a0 a1 a2 a3 a4 a5 _ _ q (fun b c => tot (lo b) (hi b) (slots v1 r) c) e0 e1 e2 e3 e4 e5
    (fun c => ?_) (fun c => ?_)
  · rw [show lo 6 = 1 from Ideal.ofBits_one_f32]
    pointwise [k0_pay25]
    simp only [ind_word]
    exact bin_sum v1 v4 x2 x3 r c hz h2 h3 _ _ _
  · pointwise [k0_pay26]
    simp only [ind_word]
    exact bin_sum v1 v4 x2 x3 r c hz h2 h3 _ _ _

/-- The eight bins' counts side by side. -/
theorem counts
    (e0 : ∀ c, a0 (ix2 r c) = cnt (lo 0) (hi 0) fun s => v4 (ix2 r s)) (e1 : ∀ c, a1 (ix2 r c) = cnt (lo 1) (hi 1) fun s => v4 (ix2 r s))
    (e2 : ∀ c, a2 (ix2 r c) = cnt (lo 2) (hi 2) fun s => v4 (ix2 r s)) (e3 : ∀ c, a3 (ix2 r c) = cnt (lo 3) (hi 3) fun s => v4 (ix2 r s))
    (e4 : ∀ c, a4 (ix2 r c) = cnt (lo 4) (hi 4) fun s => v4 (ix2 r s)) (e5 : ∀ c, a5 (ix2 r c) = cnt (lo 5) (hi 5) fun s => v4 (ix2 r s)) :
    k0_pay28 v4 a0 a1 a2 a3 a4 a5 (Scalar.ofBits .f32 0x3F800000#32) (ix2 r q) =
      cnt (lo (bin q)) (hi (bin q)) fun s => v4 (ix2 r s) := by
  unfold k0_pay28
  refine concat8 r a0 a1 a2 a3 a4 a5 _ _ q (fun b _ => cnt (lo b) (hi b) fun s => v4 (ix2 r s)) e0 e1 e2 e3 e4 e5
    (fun c => ?_) (fun c => ?_)
  · rw [show lo 6 = 1 from Ideal.ofBits_one_f32]
    pointwise [k0_pay25]
    simp only [ind_word]
    rfl
  · pointwise [k0_pay26]
    simp only [ind_word]
    rfl
end

/-! ## The blocks stored -/

/-- Every load and store of the step is at the block's corner. -/
theorem offs : (![0, 0] : Fin 2 → Nat) = fun _ => 0 := by
  funext a; fin_cases a <;> rfl

section
variable (x0 : Vec Ideal S1000x160 .f32) (x1 : Vec Ideal S160x32 .f32) (x2 : Vec Ideal S32x160 .f32)
  (x3 : Vec Ideal S160x8 .f32) (x4 : Vec Ideal S40x128 .f32) (x5 x6 : Vec Ideal S1x40 .f32) (x7 : Vec Ideal S40x8 .f32)
  (x8 x9 x10 x11 : Vec Ideal S1x128 .f32)
  (h1 : ∀ j s, x1 (ix2 j s) = if j.val = 5 * s.val + 2 then 1 else 0)
  (h2 : ∀ s j, x2 (ix2 s j) = if j.val / 5 = s.val then 1 else 0)
  (h3 : ∀ j q, x3 (ix2 j q) = if j.val % 5 = q.val then 1 else 0)
  (r : Fin 1000)

include h1 h2 h3 in
/-- The sums of row `r`, from the blocks loaded. -/
theorem pay42_at (q : Fin 40) : k0_pay42 x0 x1 x2 x3 x4 x5 x6 x7 x8 x9 x10 x11 (ix2 r q) =
    tot (lo (bin q)) (hi (bin q)) (slots x0 r) (chan q) := by
  have l0 : View.ld x0 r0_0 = x0 := View.ld_unit_zero offs _ x0
  have l1 : View.ld x1 r0_1 = x1 := View.ld_unit_zero offs _ x1
  have l2 : View.ld x2 r0_2 = x2 := View.ld_unit_zero offs _ x2
  have l3 : View.ld x3 r0_3 = x3 := View.ld_unit_zero offs _ x3
  unfold k0_pay42 k0_pay35 k0_pay34
  rw [l0, l1, l2, l3]
  have l4 : k0_pay2 x0 = x0 := by funext j; pointwise [k0_pay2]
  rw [l4]
  have hz := height x0 x1 r h1
  exact sums x0 _ x2 x3 r _ _ _ _ _ _ q hz h2 h3 (fun c => sum0 x0 x1 x2 x3 r c h2 h3 h1)
    (fun c => sum1 x0 x1 x2 x3 r c h2 h3 h1) (fun c => sum2 x0 _ x2 x3 r c hz h2 h3) (fun c => sum3 x0 _ x2 x3 r c hz h2 h3)
    (fun c => sum4 x0 _ x2 x3 r c hz h2 h3) (fun c => sum5 x0 _ x2 x3 r c hz h2 h3)

include h1 in
/-- The counts of row `r`, from the blocks loaded. -/
theorem pay43_at (q : Fin 40) : k0_pay43 x0 x1 x2 x3 x4 x5 x6 x7 x8 x9 x10 x11 (ix2 r q) =
    cnt (lo (bin q)) (hi (bin q)) fun s => slots x0 r s 2 := by
  have l0 : View.ld x0 r0_0 = x0 := View.ld_unit_zero offs _ x0
  have l1 : View.ld x1 r0_1 = x1 := View.ld_unit_zero offs _ x1
  unfold k0_pay43 k0_pay36 k0_pay37 k0_pay38 k0_pay39 k0_pay40 k0_pay41 k0_pay35
  rw [l0, l1, counts (k0_pay3 x0 x1) r _ _ _ _ _ _ q (fun c => cnt0 x0 x1 r c) (fun c => cnt1 x0 x1 r c)
    (fun c => cnt2 _ r c) (fun c => cnt3 _ r c) (fun c => cnt4 _ r c) (fun c => cnt5 _ r c)]
  simp only [height x0 x1 r h1]

/-- The divisors of row `r`: the counts, at least one. -/
theorem pay44_at (q : Fin 40) : k0_pay44 x0 x1 x2 x3 x4 x5 x6 x7 x8 x9 x10 x11 (ix2 r q) =
    max (k0_pay43 x0 x1 x2 x3 x4 x5 x6 x7 x8 x9 x10 x11 (ix2 r q)) 1 := by
  unfold k0_pay44 k0_pay43
  unfold k0_pay29
  generalize k0_pay28 (F := Ideal) _ _ _ _ _ _ _ _ = v
  pointwise

variable (e w : Fin 5 → EReal) (h5 : ∀ q, x5 (ix2 0 q) = e (chan q)) (h6 : ∀ q, x6 (ix2 0 q) = w (chan q))

include h1 h2 h3 h5 in
/-- The features of row `r`. -/
theorem feat_at (q : Fin 40) :
    k0_pay30 (k0_pay42 x0 x1 x2 x3 x4 x5 x6 x7 x8 x9 x10 x11) (k0_pay43 x0 x1 x2 x3 x4 x5 x6 x7 x8 x9 x10 x11)
      (k0_pay44 x0 x1 x2 x3 x4 x5 x6 x7 x8 x9 x10 x11) x5 (ix2 r q) = feat (slots x0 r) e (bin q) (chan q) := by
  have a := pay42_at x0 x1 x2 x3 x4 x5 x6 x7 x8 x9 x10 x11 h1 h2 h3 r q
  have b := pay43_at x0 x1 x2 x3 x4 x5 x6 x7 x8 x9 x10 x11 h1 r q
  have d := pay44_at x0 x1 x2 x3 x4 x5 x6 x7 x8 x9 x10 x11 r q
  rw [b] at d
  generalize k0_pay42 x0 x1 x2 x3 x4 x5 x6 x7 x8 x9 x10 x11 = A at a
  generalize k0_pay43 x0 x1 x2 x3 x4 x5 x6 x7 x8 x9 x10 x11 = B at b
  generalize k0_pay44 x0 x1 x2 x3 x4 x5 x6 x7 x8 x9 x10 x11 = D at d
  pointwise [k0_pay30]
  rw [a, b, d, h5]
  rfl

include h1 h2 h3 h5 h6 in
/-- The attention block the step stores. -/
theorem attn_at (h7 : ∀ j b, x7 (ix2 j b) = if j.val / 5 = b.val then 1 else 0) (b : Fin 8) :
    out0_13 x0 x1 x2 x3 x4 x5 x6 x7 x8 x9 x10 x11 (ix2 r b) = attn (slots x0 r) e w b := by
  have l5 : View.ld x5 r0_4 = x5 := View.ld_unit_zero offs _ x5
  have l6 : View.ld x6 r0_4 = x6 := View.ld_unit_zero offs _ x6
  have l7 : View.ld x7 r0_5 = x7 := View.ld_unit_zero offs _ x7
  have f := feat_at x0 x1 x2 x3 x4 x5 x6 x7 x8 x9 x10 x11 h1 h2 h3 r e h5
  unfold out0_13
  rw [l5, l6, l7, View.canon_unit_zero offs]
  unfold k0_pay31
  generalize k0_pay30 _ _ _ x5 = X at f
  pointwise
  rw [sum_bin (fun q => X (ix2 r q) * x6 (ix2 0 q)) (fun q => x7 (ix2 q b)) b fun j => h7 j b, attn]
  refine Finset.sum_congr rfl fun c _ => ?_
  show X (ix2 r _) * x6 (ix2 0 _) = _
  rw [f, h6, pick (fun b c => feat (slots x0 r) e b c * w c) ⟨5 * b + c, by omega⟩ b c rfl]

include h1 h2 h3 h5 in
/-- The block of the linear layer, normalised, that the step stores. -/
theorem y_at (o : Fin 128) :
    out0_12 x0 x1 x2 x3 x4 x5 x6 x7 x8 x9 x10 x11 (ix2 r o) =
      max ((lin (slots x0 r) e (fun j => x4 (ix2 j o)) - x8 (ix2 0 o)) *
        (x10 (ix2 0 o) * Ideal.rsqrt (x9 (ix2 0 o) + eps)) + x11 (ix2 0 o)) 0 := by
  have l4 : View.ld x4 r0_7 = x4 := View.ld_unit_zero offs _ x4
  have l5 : View.ld x5 r0_4 = x5 := View.ld_unit_zero offs _ x5
  have l8 : View.ld x8 r0_8 = x8 := View.ld_unit_zero offs _ x8
  have l9 : View.ld x9 r0_8 = x9 := View.ld_unit_zero offs _ x9
  have l10 : View.ld x10 r0_8 = x10 := View.ld_unit_zero offs _ x10
  have l11 : View.ld x11 r0_8 = x11 := View.ld_unit_zero offs _ x11
  have f := feat_at x0 x1 x2 x3 x4 x5 x6 x7 x8 x9 x10 x11 h1 h2 h3 r e h5
  unfold out0_12
  rw [l4, l5, l8, l9, l10, l11, View.canon_unit_zero offs]
  unfold k0_pay32
  generalize k0_pay30 _ _ _ x5 = X at f
  pointwise [k0_pay1, k0_pay33]
  simp only [f]
  rfl

end

end Cert.KernelIdeal.Block

end
-- ==== Proof.HostConst.lean ====
/- What the grid's constant operands hold when the region is entered: the four 0/1 matrices the host makes from iotas,
   the tiled embedding and attention rows, the transposed weights, the batch norm's rows and the height result. -/
module

public import proofs.«01_k».proof.Proof.Gen.KernelIdeal.Frame
public import proofs.«01_k».proof.Proof.Spec
public import Idealize.ShloMosaic.Lib.StableHlo.RunRead

@[expose] public section

set_option maxRecDepth 16384

noncomputable section

namespace Cert.KernelIdeal.Host

open Idealize.ShloMosaic Cert.KernelIdeal Cert.KernelIdeal.Gen Cert.Bins

variable (m : (ℓ : Loc nD τ sig) → Buf (Elt Ideal) ℓ) (c : Dev nD)

/-! ## The called functions' arguments and results, read at their plain types -/

theorem of69 (p q r) (v : main_v69.ty.Contents (Elt Ideal)) :
    (StableHlo.TRef.of (T := ⟨S1x160, .i32⟩) main_v69 p q r).ofBuf v = v := rfl
theorem of18 (p q r) (v : main_c_18.ty.Contents (Elt Ideal)) :
    (StableHlo.TRef.of (T := ⟨S_, .i32⟩) main_c_18 p q r).ofBuf v = v := rfl
theorem to70 (p q r) (v : (⟨S1x160, .i32⟩ : BufTy).Contents (Elt Ideal)) :
    (StableHlo.TRef.of (T := ⟨S1x160, .i32⟩) main_v70 p q r).toBuf v = v := rfl
theorem of76 (p q r) (v : main_v76.ty.Contents (Elt Ideal)) :
    (StableHlo.TRef.of (T := ⟨S160x1, .i32⟩) main_v76 p q r).ofBuf v = v := rfl
theorem of19 (p q r) (v : main_c_19.ty.Contents (Elt Ideal)) :
    (StableHlo.TRef.of (T := ⟨S_, .i32⟩) main_c_19 p q r).ofBuf v = v := rfl
theorem to77 (p q r) (v : (⟨S160x1, .i32⟩ : BufTy).Contents (Elt Ideal)) :
    (StableHlo.TRef.of (T := ⟨S160x1, .i32⟩) main_v77 p q r).toBuf v = v := rfl
theorem of85 (p q r) (v : main_v85.ty.Contents (Elt Ideal)) :
    (StableHlo.TRef.of (T := ⟨S1x40, .i32⟩) main_v85 p q r).ofBuf v = v := rfl
theorem of20 (p q r) (v : main_c_20.ty.Contents (Elt Ideal)) :
    (StableHlo.TRef.of (T := ⟨S_, .i32⟩) main_c_20 p q r).ofBuf v = v := rfl
theorem to86 (p q r) (v : (⟨S1x40, .i32⟩ : BufTy).Contents (Elt Ideal)) :
    (StableHlo.TRef.of (T := ⟨S1x40, .i32⟩) main_v86 p q r).toBuf v = v := rfl

/-- A comparison of two words for equality, made a float, is one where they are equal and zero where not. -/
theorem uitofp_eq {x y : BitVec 32} {P : Prop} [Decidable P] (h : x = y ↔ P) :
    (FloatOps.uitofp .f32 (IntOp.cmpi .eq x y) : Ideal .f32) = if P then 1 else 0 := by
  by_cases hp : P
  · rw [if_pos hp, h.mpr hp]
    show (((BitVec.ofBool (y == y)).toNat : ℝ) : EReal) = 1
    simp
  · rw [if_neg hp]
    have : (x == y) = false := by simpa using fun e => hp (h.mp e)
    show (((BitVec.ofBool (x == y)).toNat : ℝ) : EReal) = 0
    rw [this]; simp

/-! ## The 0/1 matrices -/

/-- The matrix that picks the heights: column `5 s + 2` for slot `s`. -/
theorem ez (j : Fin 160) (s : Fin 32) : V m c main_v68 (ix2 j s) = if j.val = 5 * s.val + 2 then (1 : EReal) else 0 := by
  after_reads_simp
  pointwise
  refine uitofp_eq ?_
  revert j s
  decide +kernel

/-- The matrix that spreads a slot's value over its columns. -/
theorem rex (s : Fin 32) (j : Fin 160) : V m c main_v75 (ix2 s j) = if j.val / 5 = s.val then (1 : EReal) else 0 := by
  after_reads_simp
  simp only [StableHlo.TRef.ofBuf_toBuf]
  simp only [of69, of18, to70, id]
  pointwise
  refine uitofp_eq ?_
  revert j s
  decide +kernel

/-- The matrix that collects the columns of one channel. -/
theorem sc (j : Fin 160) (q : Fin 8) : V m c main_v83 (ix2 j q) = if j.val % 5 = q.val then (1 : EReal) else 0 := by
  after_reads_simp
  simp only [StableHlo.TRef.ofBuf_toBuf]
  simp only [of76, of19, to77, id]
  pointwise
  refine uitofp_eq ?_
  revert j q
  decide +kernel

/-- The matrix that collects the columns of one bin. -/
theorem smat (j : Fin 40) (b : Fin 8) : V m c main_v93 (ix2 j b) = if j.val / 5 = b.val then (1 : EReal) else 0 := by
  after_reads_simp
  simp only [StableHlo.TRef.ofBuf_toBuf]
  simp only [of85, of20, to86, id]
  pointwise
  refine uitofp_eq ?_
  revert j b
  decide +kernel

/-! ## The parameters -/

/-- The weights, transposed. -/
theorem lin_wt (j : Fin 40) (o : Fin 128) : V m c main_v94 (ix2 j o) = m (c, Proc.tc.devRef main_arg5) (ix2 o j) := by
  after_reads_simp
  pointwise

/-- The embedding, repeated for each bin. -/
theorem emb_row (q : Fin 40) : V m c main_v97 (ix2 0 q) = m (c, Proc.tc.devRef main_arg3) (ix2 0 (chan q)) := by
  after_reads_simp
  pointwise
  rfl

/-- The attention weights, repeated for each bin. -/
theorem attn_row (q : Fin 40) : V m c main_v100 (ix2 0 q) = m (c, Proc.tc.devRef main_arg4) (ix2 0 (chan q)) := by
  after_reads_simp
  pointwise
  rfl

/-- The running means. -/
theorem rm (o : Fin 128) : V m c main_v101 (ix2 0 o) = m (c, Proc.tc.devRef main_arg8) (ix1 o) := by
  after_reads_simp
  pointwise

/-- The running variances. -/
theorem rv (o : Fin 128) : V m c main_v102 (ix2 0 o) = m (c, Proc.tc.devRef main_arg9) (ix1 o) := by
  after_reads_simp
  pointwise

/-- The scales. -/
theorem gm (o : Fin 128) : V m c main_v103 (ix2 0 o) = m (c, Proc.tc.devRef main_arg6) (ix1 o) := by
  after_reads_simp
  pointwise

/-- The shifts. -/
theorem bt (o : Fin 128) : V m c main_v104 (ix2 0 o) = m (c, Proc.tc.devRef main_arg7) (ix1 o) := by
  after_reads_simp
  pointwise

/-- The height result: `b - 4.5` for bin `b`. -/
theorem z_coord (p : Fin 100000) (b : Fin 8) : V m c main_v109 (ix3 p b 0) =
    ((b.val : ℝ) : EReal) - Ideal.ofBits .f32 0x40900000#32 := by
  after_reads_simp
  pointwise
  show (((BitVec.ofNat 32 b.val).toInt : ℝ) : EReal) - _ = _
  rw [(by decide : ∀ b : Fin 8, (BitVec.ofNat 32 b.val).toInt = (b.val : Int)) b]
  simp

end Cert.KernelIdeal.Host

end
-- ==== Proof.Counts.lean ====
/- Counting the points of each pillar over the sorted indices is counting them over the indices as given: the sort is a
   permutation of the points, and a count does not depend on the order its points are taken in. -/
module

public import proofs.«01_k».proof.Proof.Gen.ReferenceIdeal.Read
public import Idealize.ShloMosaic.Lib.SortFacts
public import Idealize.ShloMosaic.Lib.Routing.OpsSet
public import Idealize.ShloMosaic.Lib.Pointwise

@[expose] public section

set_option maxRecDepth 16384

noncomputable section

namespace Cert.ReferenceIdeal.Counts

open Idealize.ShloMosaic Idealize.ShloMosaic.Routing Cert.ReferenceIdeal Cert.ReferenceIdeal.Gen Cert.ReferenceIdeal.Read

/-! ## A scatter of one constant, under a permutation of its updates -/

/-- A scatter of copies of one value by a body whose steps commute is unchanged when its updates are taken in another
    order: if update `k` lands under one table of indices where update `σ k` lands under the other, the results agree. -/
theorem scatter_const_perm {α : Type} {s si u : Shape} {w : Nat} (d : ScatterDims s si u) (f : α → α → α)
    (x : s.Idx → α) (idx idx' : IVec si w) (v : α) (σ : Equiv.Perm u.Idx)
    (h : ∀ k ι, d.resultIdx? k idx' = some ι ↔ d.resultIdx? (σ k) idx = some ι) :
    Host.scatter d f x idx' (fun _ => v) = Host.scatter d f x idx fun _ => v := by
  funext ι
  rw [scatter_at, scatter_at]
  let τ : Equiv.Perm (Fin u.numel) := (u.rowMajor.symm.trans σ).trans u.rowMajor
  have hp : ((List.finRange u.numel).map τ).Perm (List.finRange u.numel) := Equiv.Perm.map_finRange_perm τ
  have key : ∀ y, List.foldl (fun a n => if d.resultIdx? (u.rowMajor.symm n) idx = some ι then f a v else a) y ((List.finRange u.numel).map τ)
      = List.foldl (fun a n => if d.resultIdx? (u.rowMajor.symm n) idx = some ι then f a v else a) y (List.finRange u.numel) :=
    hp.foldl_eq' fun a _ b _ z => by
      by_cases ha : d.resultIdx? (u.rowMajor.symm a) idx = some ι <;>
        by_cases hb : d.resultIdx? (u.rowMajor.symm b) idx = some ι <;> simp only [if_pos, if_neg, ha, hb, not_false_eq_true]
  rw [← key, List.foldl_map]
  refine congrArg (fun g => List.foldl g (x ι) (List.finRange u.numel)) (funext fun a => funext fun n => ?_)
  have e : u.rowMajor.symm (τ n) = σ (u.rowMajor.symm n) := by
    show u.rowMajor.symm (u.rowMajor _) = _
    rw [Equiv.symm_apply_apply]; rfl
  rw [e]
  by_cases hc : d.resultIdx? (σ (u.rowMajor.symm n)) idx = some ι
  · rw [if_pos hc, if_pos ((h _ _).mpr hc)]
  · rw [if_neg hc, if_neg fun q => hc ((h _ _).mp q)]

/-! ## The order is a permutation of the points -/

/-- The position that a sort of two arrays of `N` puts at `j`. -/
def source {α β : Type} {N : Nat} (cmp : α × β → α × β → BitVec 1) (x : (⟨1, ![N]⟩ : Shape).Idx → α)
    (y : (⟨1, ![N]⟩ : Shape).Idx → β) (j : Fin N) : Fin N :=
  sortedFrom (fun k k' => cmp (x (ix1 k), y (ix1 k)) (x (ix1 k'), y (ix1 k')) == 1#1) j

theorem along_ix1 {N : Nat} (j k : Fin N) : (ix1 j).along 0 k = ix1 k := by
  funext a
  obtain rfl : a = 0 := Subsingleton.elim _ _
  exact Function.update_self ..

/-- The second array, sorted, at `j`. -/
theorem sort2_snd {α β : Type} {N : Nat} (cmp : α × β → α × β → BitVec 1) (x : (⟨1, ![N]⟩ : Shape).Idx → α)
    (y : (⟨1, ![N]⟩ : Shape).Idx → β) (j : Fin N) : (Host.sort2 ⟨1, ![N]⟩ 0 cmp x y).2 (ix1 j) = y (ix1 (source cmp x y j)) := by
  have e : ∀ k : Fin N, (ix1 j).along ⟨0, Nat.zero_lt_one⟩ k = ix1 k := along_ix1 j
  unfold Host.sort2
  rw [dif_pos (show 0 < (⟨1, ![N]⟩ : Shape).rank from Nat.zero_lt_one)]
  refine (congrArg y (e _)).trans (congrArg (fun q => y (ix1 q)) ?_)
  refine congrArg (fun q : Fin N → Fin N → Bool => sortedFrom q j) (funext fun k => funext fun k' => ?_)
  exact congrArg₂ (fun p q => cmp (x p, y p) (x q, y q) == 1#1) (e k) (e k')

theorem source_bijective {α β : Type} {N : Nat} (cmp : α × β → α × β → BitVec 1) (x : (⟨1, ![N]⟩ : Shape).Idx → α)
    (y : (⟨1, ![N]⟩ : Shape).Idx → β) : Function.Bijective (source cmp x y) :=
  ⟨sortedFrom_injective _, sortedFrom_surjective _⟩

variable (x1 : (⟨S2000000, .i32⟩ : BufTy).Contents (Elt Ideal))

/-- The position that the sort of the points' pillars puts at `j`. -/
def src (j : Fin 2000000) : Fin 2000000 := source comparator_i32_i32_d0 x1 (val_main_call0_v0 (F := Ideal)) j

theorem order_at (j : Fin 2000000) : val_main_v1 (F := Ideal) x1 (ix1 j) = BitVec.ofNat 32 (src x1 j).val := by
  unfold val_main_v1
  rw [sort2_snd]
  rfl

/-- Where update `i` starts is the word it reads. -/
theorem start_eq (idx : IVec S2000000x1 32) (i : Fin 2000000) :
    scatter_S100000_S2000000x1_S2000000_n_0_0_1.start (ix1 i) idx 0 = (idx (ix2 i 0)).toInt := by
  unfold ScatterDims.start
  rw [dif_pos (by decide)]
  congr 2
  funext b
  apply Fin.ext
  match b with
  | ⟨0, _⟩ => rfl
  | ⟨1, _⟩ => rfl

/-- Two tables of indices that agree at update `i` and update `j` land there alike. -/
theorem lands_congr (idx idx' : IVec S2000000x1 32) (i j : Fin 2000000) (h : idx' (ix2 i 0) = idx (ix2 j 0)) (ι : S100000.Idx) :
    scatter_S100000_S2000000x1_S2000000_n_0_0_1.resultIdx? (ix1 i) idx' = some ι ↔
      scatter_S100000_S2000000x1_S2000000_n_0_0_1.resultIdx? (ix1 j) idx = some ι := by
  rw [resultIdx?_eq_some, resultIdx?_eq_some]
  refine forall_congr' fun a => ?_
  obtain rfl : a = 0 := Subsingleton.elim _ _
  rw [start_eq, start_eq, h]
  rfl

/-- The order at `j`, as an index to gather by: it is never negative, so nothing is added to it. -/
theorem gather_idx (j : Fin 2000000) : val_main_v7 (F := Ideal) x1 (ix2 j 0) = BitVec.ofNat 32 (src x1 j).val := by
  have h := order_at x1 j
  unfold val_main_v7 val_main_v6 val_main_v5 val_main_v4 val_main_v3 val_main_v2 val_main_c val_main_c_0
  generalize val_main_v1 (F := Ideal) x1 = A at h
  pointwise
  rw [h]
  refine wrap_of_lt _ _ ?_
  have := (src x1 j).isLt
  rw [BitVec.toNat_ofNat, Nat.mod_eq_of_lt (by omega)]
  show _ < 2 ^ 31
  omega

/-- The sorted pillars at `j`. -/
theorem sorted_at (j : Fin 2000000) : val_main_v8 (F := Ideal) x1 (ix1 j) = x1 (ix1 (src x1 j)) :=
  gather_take1 _ rfl rfl rfl rfl x1 _ j (src x1 j) (gather_idx x1 j) (by decide)

/-- The sort as a permutation of the points. -/
def perm : Equiv.Perm (Fin 2000000) :=
  Equiv.ofBijective (src x1) (source_bijective _ _ _)

theorem perm_apply (j : Fin 2000000) : perm x1 j = src x1 j := Equiv.ofBijective_apply _ _ _

/-- A permutation of positions, as one of the indices of a vector. -/
def permIx {N : Nat} (σ : Equiv.Perm (Fin N)) : Equiv.Perm (⟨1, ![N]⟩ : Shape).Idx where
  toFun k := ix1 (σ (k 0))
  invFun k := ix1 (σ.symm (k 0))
  left_inv k := by
    funext a
    obtain rfl : a = 0 := Subsingleton.elim _ _
    exact σ.symm_apply_apply (k 0)
  right_inv k := by
    funext a
    obtain rfl : a = 0 := Subsingleton.elim _ _
    exact σ.apply_symm_apply (k 0)

theorem permIx_ix1 {N : Nat} (σ : Equiv.Perm (Fin N)) (i : Fin N) : permIx σ (ix1 i) = ix1 (σ i) := rfl

theorem ix1_eta {N : Nat} (k : (⟨1, ![N]⟩ : Shape).Idx) : k = ix1 (k 0) := by
  funext a
  obtain rfl : a = 0 := Subsingleton.elim _ _
  rfl

/-! ## The counts -/

/-- Where the points whose pillars are `a` are counted: below zero as zero. -/
def place (a : IVec S2000000 32) : IVec S2000000x1 32 :=
  broadcastInDim S2000000x1 ![0] bcast_S2000000_S2000000x1_0
    (select (cmpi .slt (maxsi (val_main_call1_v1 (F := Ideal)) a) (val_main_v18 (F := Ideal)))
      (addi (maxsi (val_main_call1_v1 (F := Ideal)) a) (val_main_v20 (F := Ideal)))
      (maxsi (val_main_call1_v1 (F := Ideal)) a))

/-- The place of a point depends on its pillar alone. -/
theorem place_congr (a b : IVec S2000000 32) (i j : Fin 2000000) (h : a (ix1 i) = b (ix1 j)) :
    place a (ix2 i 0) = place b (ix2 j 0) := by
  unfold place val_main_call1_v1 val_main_call1_v0 val_main_v18 val_main_v20 val_main_c_4 val_main_c_5 val_main_c_6 id
  pointwise
  rw [h]

/-- The points of each pillar, counted over `a`. -/
def counts (a : IVec S2000000 32) : IVec S100000 32 :=
  Host.scatter scatter_S100000_S2000000x1_S2000000_n_0_0_1 IntOp.addi (val_main_v16 (F := Ideal)) (place a) (val_main_v24 (F := Ideal))

/-- What the reference counts. -/
theorem counts_sorted : val_main_v25 (F := Ideal) x1 = counts (val_main_v8 (F := Ideal) x1) := rfl

/-- Counting the sorted pillars is counting the pillars. -/
theorem counts_eq : counts (val_main_v8 (F := Ideal) x1) = counts x1 := by
  have ones : val_main_v24 (F := Ideal) = fun _ => 1#32 := rfl
  unfold counts
  rw [ones]
  refine scatter_const_perm _ _ _ _ _ _ (permIx (perm x1)) fun k ι => ?_
  obtain ⟨i, rfl⟩ : ∃ i : Fin 2000000, k = ix1 i := ⟨k 0, ix1_eta k⟩
  rw [permIx_ix1, perm_apply]
  exact lands_congr _ _ _ _ (place_congr _ _ _ _ (sorted_at x1 i)) ι

end Cert.ReferenceIdeal.Counts

end
-- ==== Proof.Dense.lean ====
/- The kernel's dense array, the one that its grid reads: the host groups the points by pillar as the reference does,
   counting over the pillars as given where the reference counts over the sorted ones. -/
module

public import proofs.«01_k».proof.Proof.Gen.KernelIdeal.Frame
public import Idealize.ShloMosaic.Lib.StableHlo.RunRead
public import proofs.«01_k».proof.Proof.Counts
public import proofs.«01_k».proof.Proof.Spec

@[expose] public section

set_option maxRecDepth 16384

noncomputable section

namespace Cert.KernelIdeal.Dense

open Idealize.ShloMosaic Cert.ReferenceIdeal.Read Cert.KernelIdeal Cert.KernelIdeal.Gen Cert.Bins

variable (m : (ℓ : Loc nD τ sig) → Buf (Elt Ideal) ℓ) (c : Dev nD)

/-! ## The called functions' arguments and results, read at their plain types -/

theorem of_arg1 (p q r) (v : main_arg1.ty.Contents (Elt Ideal)) :
    (StableHlo.TRef.of (T := ⟨S2000000, .i32⟩) main_arg1 p q r).ofBuf v = v := (rfl)
theorem of_c_4 (p q r) (v : main_c_4.ty.Contents (Elt Ideal)) :
    (StableHlo.TRef.of (T := ⟨S_, .i32⟩) main_c_4 p q r).ofBuf v = v := (rfl)
theorem to_v1 (p q r) (v : (⟨S2000000, .i32⟩ : BufTy).Contents (Elt Ideal)) :
    (StableHlo.TRef.of (T := ⟨S2000000, .i32⟩) main_v1 p q r).toBuf v = v := (rfl)
theorem to_v17 (p q r) (v : (⟨S2000000, .i32⟩ : BufTy).Contents (Elt Ideal)) :
    (StableHlo.TRef.of (T := ⟨S2000000, .i32⟩) main_v17 p q r).toBuf v = v := (rfl)
theorem of_v25 (p q r) (v : main_v25.ty.Contents (Elt Ideal)) :
    (StableHlo.TRef.of (T := ⟨S100000, .i32⟩) main_v25 p q r).ofBuf v = v := (rfl)
theorem to_v26 (p q r) (v : (⟨S100000, .i32⟩ : BufTy).Contents (Elt Ideal)) :
    (StableHlo.TRef.of (T := ⟨S100000, .i32⟩) main_v26 p q r).toBuf v = v := (rfl)
theorem of_c_11 (p q r) (v : main_c_11.ty.Contents (Elt Ideal)) :
    (StableHlo.TRef.of (T := ⟨S_, .i32⟩) main_c_11 p q r).ofBuf v = v := (rfl)
theorem of_v38 (p q r) (v : main_v38.ty.Contents (Elt Ideal)) :
    (StableHlo.TRef.of (T := ⟨S2000000, .i1⟩) main_v38 p q r).ofBuf v = v := (rfl)
theorem of_v36 (p q r) (v : main_v36.ty.Contents (Elt Ideal)) :
    (StableHlo.TRef.of (T := ⟨S2000000, .i32⟩) main_v36 p q r).ofBuf v = v := (rfl)
theorem to_v39 (p q r) (v : (⟨S2000000, .i32⟩ : BufTy).Contents (Elt Ideal)) :
    (StableHlo.TRef.of (T := ⟨S2000000, .i32⟩) main_v39 p q r).toBuf v = v := (rfl)

/-! ## The two programs' descriptions of the same gathers, scatters and comparisons -/

theorem group_eq : ReferenceIdeal.scatter_S100000x33x5_S2000000x2_S2000000x5_1_01_01_1 = scatter_S100000x33x5_S2000000x2_S2000000x5_1_01_01_1 := (rfl)
theorem points_eq : ReferenceIdeal.gather_S2000000x5_S2000000x1_S2000000x5_1_0_n_n_0_1_15 = gather_S2000000x5_S2000000x1_S2000000x5_1_0_n_n_0_1_15 := (rfl)
theorem pillars_eq : ReferenceIdeal.gather_S2000000_S2000000x1_S2000000_n_0_n_n_0_1_1 = gather_S2000000_S2000000x1_S2000000_n_0_n_n_0_1_1 := (rfl)
theorem starts_eq : ReferenceIdeal.gather_S100000_S2000000x1_S2000000_n_0_n_n_0_1_1 = gather_S100000_S2000000x1_S2000000_n_0_n_n_0_1_1 := (rfl)
theorem count_eq : ReferenceIdeal.scatter_S100000_S2000000x1_S2000000_n_0_0_1 = scatter_S100000_S2000000x1_S2000000_n_0_0_1 := (rfl)
theorem less_eq : ReferenceIdeal.comparator_i32_i32_d0 = comparator_i32_i32_d0 := (rfl)

/-- The points, sorted. -/
theorem at_v15 : V m c main_v15 = val_main_v15 (F := Ideal) (m (c, Proc.tc.devRef main_arg0)) (m (c, Proc.tc.devRef main_arg1)) := by
  simp only [val_main_v54, val_main_v40, val_main_cst, val_main_v53, val_main_v51, val_main_v45, val_main_v42,
    val_main_v8, val_main_v7, val_main_v6, val_main_v3, val_main_v1, val_main_call0_v0, val_main_v2, val_main_c,
    val_main_v5, val_main_v4, val_main_c_0, val_main_v41, val_main_c_12, val_main_v44, val_main_v43, val_main_c_13,
    val_main_v52, val_main_v50, val_main_v47, val_main_v39, val_main_v38, val_main_v36, val_main_v28, val_main_v35,
    val_main_v27, val_main_v26, val_main_call2_call0_v0, val_main_call2_call0_c, val_main_v34, val_main_v33,
    val_main_v30, val_main_v29, val_main_c_8, val_main_v32, val_main_v31, val_main_c_9, val_main_v37, val_main_c_10,
    val_main_call3_v1, val_main_call3_v0, val_main_c_11, val_main_v46, val_main_c_14, val_main_v49, val_main_v48,
    val_main_c_15, val_main_v15, val_main_v0, val_main_v14, val_main_v13, val_main_v10, val_main_v9, val_main_c_1,
    val_main_v12, val_main_v11, val_main_c_2, val_main_v16, val_main_v18, val_main_v20, val_main_v24, val_main_c_3,
    val_main_c_5, val_main_c_6, val_main_c_7, val_main_call1_v1, val_main_call1_v0, val_main_c_4, Cert.ReferenceIdeal.Counts.counts, Cert.ReferenceIdeal.Counts.place,
    id]
  after_reads_simp
  simp only [StableHlo.TRef.ofBuf_toBuf]
  simp only [of_arg1, of_c_4, to_v1, to_v17, of_v25, to_v26, of_c_11, of_v38, of_v36, to_v39, id]
  rw [points_eq, less_eq]

/-- The pillars, sorted, as indices. -/
theorem at_v51 : V m c main_v51 = val_main_v51 (F := Ideal) (m (c, Proc.tc.devRef main_arg1)) := by
  simp only [val_main_v54, val_main_v40, val_main_cst, val_main_v53, val_main_v51, val_main_v45, val_main_v42,
    val_main_v8, val_main_v7, val_main_v6, val_main_v3, val_main_v1, val_main_call0_v0, val_main_v2, val_main_c,
    val_main_v5, val_main_v4, val_main_c_0, val_main_v41, val_main_c_12, val_main_v44, val_main_v43, val_main_c_13,
    val_main_v52, val_main_v50, val_main_v47, val_main_v39, val_main_v38, val_main_v36, val_main_v28, val_main_v35,
    val_main_v27, val_main_v26, val_main_call2_call0_v0, val_main_call2_call0_c, val_main_v34, val_main_v33,
    val_main_v30, val_main_v29, val_main_c_8, val_main_v32, val_main_v31, val_main_c_9, val_main_v37, val_main_c_10,
    val_main_call3_v1, val_main_call3_v0, val_main_c_11, val_main_v46, val_main_c_14, val_main_v49, val_main_v48,
    val_main_c_15, val_main_v15, val_main_v0, val_main_v14, val_main_v13, val_main_v10, val_main_v9, val_main_c_1,
    val_main_v12, val_main_v11, val_main_c_2, val_main_v16, val_main_v18, val_main_v20, val_main_v24, val_main_c_3,
    val_main_c_5, val_main_c_6, val_main_c_7, val_main_call1_v1, val_main_call1_v0, val_main_c_4, Cert.ReferenceIdeal.Counts.counts, Cert.ReferenceIdeal.Counts.place,
    id]
  after_reads_simp
  simp only [StableHlo.TRef.ofBuf_toBuf]
  simp only [of_arg1, of_c_4, to_v1, to_v17, of_v25, to_v26, of_c_11, of_v38, of_v36, to_v39, id]
  rw [pillars_eq, less_eq]

/-- The pillars' first points. -/
theorem at_v27 : V m c main_v27 = val_main_v27 (F := Ideal) (m (c, Proc.tc.devRef main_arg1)) := by
  unfold val_main_v27 val_main_v26
  rw [Cert.ReferenceIdeal.Counts.counts_sorted, Cert.ReferenceIdeal.Counts.counts_eq]
  simp only [val_main_v54, val_main_v40, val_main_cst, val_main_v53, val_main_v51, val_main_v45, val_main_v42,
    val_main_v8, val_main_v7, val_main_v6, val_main_v3, val_main_v1, val_main_call0_v0, val_main_v2, val_main_c,
    val_main_v5, val_main_v4, val_main_c_0, val_main_v41, val_main_c_12, val_main_v44, val_main_v43, val_main_c_13,
    val_main_v52, val_main_v50, val_main_v47, val_main_v39, val_main_v38, val_main_v36, val_main_v28, val_main_v35,
    val_main_v27, val_main_v26, val_main_call2_call0_v0, val_main_call2_call0_c, val_main_v34, val_main_v33,
    val_main_v30, val_main_v29, val_main_c_8, val_main_v32, val_main_v31, val_main_c_9, val_main_v37, val_main_c_10,
    val_main_call3_v1, val_main_call3_v0, val_main_c_11, val_main_v46, val_main_c_14, val_main_v49, val_main_v48,
    val_main_c_15, val_main_v15, val_main_v0, val_main_v14, val_main_v13, val_main_v10, val_main_v9, val_main_c_1,
    val_main_v12, val_main_v11, val_main_c_2, val_main_v16, val_main_v18, val_main_v20, val_main_v24, val_main_c_3,
    val_main_c_5, val_main_c_6, val_main_c_7, val_main_call1_v1, val_main_call1_v0, val_main_c_4, Cert.ReferenceIdeal.Counts.counts, Cert.ReferenceIdeal.Counts.place,
    id]
  after_reads_simp
  simp only [StableHlo.TRef.ofBuf_toBuf]
  simp only [of_arg1, of_c_4, to_v1, to_v17, of_v25, to_v26, of_c_11, of_v38, of_v36, to_v39, id]
  rw [count_eq]

/-- The first point of each point's pillar. -/
theorem at_v35 : V m c main_v35 = val_main_v35 (F := Ideal) (m (c, Proc.tc.devRef main_arg1)) := by
  unfold val_main_v35 val_main_v27 val_main_v26
  rw [Cert.ReferenceIdeal.Counts.counts_sorted, Cert.ReferenceIdeal.Counts.counts_eq]
  simp only [val_main_v54, val_main_v40, val_main_cst, val_main_v53, val_main_v51, val_main_v45, val_main_v42,
    val_main_v8, val_main_v7, val_main_v6, val_main_v3, val_main_v1, val_main_call0_v0, val_main_v2, val_main_c,
    val_main_v5, val_main_v4, val_main_c_0, val_main_v41, val_main_c_12, val_main_v44, val_main_v43, val_main_c_13,
    val_main_v52, val_main_v50, val_main_v47, val_main_v39, val_main_v38, val_main_v36, val_main_v28, val_main_v35,
    val_main_v27, val_main_v26, val_main_call2_call0_v0, val_main_call2_call0_c, val_main_v34, val_main_v33,
    val_main_v30, val_main_v29, val_main_c_8, val_main_v32, val_main_v31, val_main_c_9, val_main_v37, val_main_c_10,
    val_main_call3_v1, val_main_call3_v0, val_main_c_11, val_main_v46, val_main_c_14, val_main_v49, val_main_v48,
    val_main_c_15, val_main_v15, val_main_v0, val_main_v14, val_main_v13, val_main_v10, val_main_v9, val_main_c_1,
    val_main_v12, val_main_v11, val_main_c_2, val_main_v16, val_main_v18, val_main_v20, val_main_v24, val_main_c_3,
    val_main_c_5, val_main_c_6, val_main_c_7, val_main_call1_v1, val_main_call1_v0, val_main_c_4, Cert.ReferenceIdeal.Counts.counts, Cert.ReferenceIdeal.Counts.place,
    id]
  after_reads_simp
  simp only [StableHlo.TRef.ofBuf_toBuf]
  simp only [of_arg1, of_c_4, to_v1, to_v17, of_v25, to_v26, of_c_11, of_v38, of_v36, to_v39, id]
  rw [starts_eq, pillars_eq, count_eq, less_eq]

/-- The slots. -/
theorem at_v39 : V m c main_v39 = val_main_v39 (F := Ideal) (m (c, Proc.tc.devRef main_arg1)) := by
  unfold val_main_v39 val_main_v38 val_main_v36 val_main_v35 val_main_v27 val_main_v26
  rw [Cert.ReferenceIdeal.Counts.counts_sorted, Cert.ReferenceIdeal.Counts.counts_eq]
  simp only [val_main_v54, val_main_v40, val_main_cst, val_main_v53, val_main_v51, val_main_v45, val_main_v42,
    val_main_v8, val_main_v7, val_main_v6, val_main_v3, val_main_v1, val_main_call0_v0, val_main_v2, val_main_c,
    val_main_v5, val_main_v4, val_main_c_0, val_main_v41, val_main_c_12, val_main_v44, val_main_v43, val_main_c_13,
    val_main_v52, val_main_v50, val_main_v47, val_main_v39, val_main_v38, val_main_v36, val_main_v28, val_main_v35,
    val_main_v27, val_main_v26, val_main_call2_call0_v0, val_main_call2_call0_c, val_main_v34, val_main_v33,
    val_main_v30, val_main_v29, val_main_c_8, val_main_v32, val_main_v31, val_main_c_9, val_main_v37, val_main_c_10,
    val_main_call3_v1, val_main_call3_v0, val_main_c_11, val_main_v46, val_main_c_14, val_main_v49, val_main_v48,
    val_main_c_15, val_main_v15, val_main_v0, val_main_v14, val_main_v13, val_main_v10, val_main_v9, val_main_c_1,
    val_main_v12, val_main_v11, val_main_c_2, val_main_v16, val_main_v18, val_main_v20, val_main_v24, val_main_c_3,
    val_main_c_5, val_main_c_6, val_main_c_7, val_main_call1_v1, val_main_call1_v0, val_main_c_4, Cert.ReferenceIdeal.Counts.counts, Cert.ReferenceIdeal.Counts.place,
    id]
  after_reads_simp
  simp only [StableHlo.TRef.ofBuf_toBuf]
  simp only [of_arg1, of_c_4, to_v1, to_v17, of_v25, to_v26, of_c_11, of_v38, of_v36, to_v39, id]
  rw [starts_eq, pillars_eq, count_eq, less_eq]

/-- The slots as indices. -/
theorem at_v52 : V m c main_v52 = val_main_v52 (F := Ideal) (m (c, Proc.tc.devRef main_arg1)) := by
  unfold val_main_v52 val_main_v50 val_main_v49 val_main_v47 val_main_v39 val_main_v38 val_main_v36 val_main_v35 val_main_v27 val_main_v26
  rw [Cert.ReferenceIdeal.Counts.counts_sorted, Cert.ReferenceIdeal.Counts.counts_eq]
  simp only [val_main_v54, val_main_v40, val_main_cst, val_main_v53, val_main_v51, val_main_v45, val_main_v42,
    val_main_v8, val_main_v7, val_main_v6, val_main_v3, val_main_v1, val_main_call0_v0, val_main_v2, val_main_c,
    val_main_v5, val_main_v4, val_main_c_0, val_main_v41, val_main_c_12, val_main_v44, val_main_v43, val_main_c_13,
    val_main_v52, val_main_v50, val_main_v47, val_main_v39, val_main_v38, val_main_v36, val_main_v28, val_main_v35,
    val_main_v27, val_main_v26, val_main_call2_call0_v0, val_main_call2_call0_c, val_main_v34, val_main_v33,
    val_main_v30, val_main_v29, val_main_c_8, val_main_v32, val_main_v31, val_main_c_9, val_main_v37, val_main_c_10,
    val_main_call3_v1, val_main_call3_v0, val_main_c_11, val_main_v46, val_main_c_14, val_main_v49, val_main_v48,
    val_main_c_15, val_main_v15, val_main_v0, val_main_v14, val_main_v13, val_main_v10, val_main_v9, val_main_c_1,
    val_main_v12, val_main_v11, val_main_c_2, val_main_v16, val_main_v18, val_main_v20, val_main_v24, val_main_c_3,
    val_main_c_5, val_main_c_6, val_main_c_7, val_main_call1_v1, val_main_call1_v0, val_main_c_4, Cert.ReferenceIdeal.Counts.counts, Cert.ReferenceIdeal.Counts.place,
    id]
  after_reads_simp
  simp only [StableHlo.TRef.ofBuf_toBuf]
  simp only [of_arg1, of_c_4, to_v1, to_v17, of_v25, to_v26, of_c_11, of_v38, of_v36, to_v39, id]
  rw [starts_eq, pillars_eq, count_eq, less_eq]

/-! When the two columns of indices are joined they hold what they hold at the region's entry. -/

theorem before_v51 : StableHlo.upto (τ := τ) (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) 79 (Proc.tc.devRef main_v51) = V m c main_v51 := by
  after_reads_simp

theorem before_v52 : StableHlo.upto (τ := τ) (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) 79 (Proc.tc.devRef main_v52) = V m c main_v52 := by
  after_reads_simp

/-- The grouped points, the overflow slot included. -/
theorem grouped : V m c main_v54 = val_main_v54 (F := Ideal) (m (c, Proc.tc.devRef main_arg0)) (m (c, Proc.tc.devRef main_arg1)) := by
  have e : V m c main_v54 = Host.scatter scatter_S100000x33x5_S2000000x2_S2000000x5_1_01_01_1 (fun _ b => b) (V m c main_v40)
      (concatenate S2000000x2 1 [⟨S2000000x1, V m c main_v51⟩, ⟨S2000000x1, V m c main_v52⟩] concatenates_S2000000x1_S2000000x1_S2000000x2_d1)
      (V m c main_v15) := by
    after_reads_simp
    rw [before_v51, before_v52]
    rfl
  have e0 : V m c main_v40 = val_main_v40 (F := Ideal) := by
    after_reads_simp
    rfl
  rw [e, e0, at_v51, at_v52, at_v15]
  unfold val_main_v54 val_main_v53
  rw [group_eq]
  rfl

/-- The array the grid reads, at a pillar, a slot and a channel. -/
theorem dense2 (p : Fin 100000) (s : Fin 32) (q : Fin 5) : V m c main_v56 (ix2 p (col s q)) =
    val_main_v55 (F := Ideal) (m (c, Proc.tc.devRef main_arg0)) (m (c, Proc.tc.devRef main_arg1)) (ix3 p s q) := by
  have e : V m c main_v56 = shapeCast S100000x160 (extractStridedSlice S100000x32x5 ![0, 0, 0] (V m c main_v54) slices_S100000x33x5_S100000x32x5_0_0_0) shapeCasts_S100000x32x5_S100000x160 := by
    after_reads_simp
    try rfl
  rw [e, grouped]
  unfold val_main_v55
  generalize val_main_v54 (F := Ideal) _ _ = A
  pointwise
  have e1 : (col s q).val / 5 = s.val := by show (5 * s.val + q.val) / 5 = _; omega
  have e2 : (col s q).val % 5 = q.val := by show (5 * s.val + q.val) % 5 = _; omega
  exact congrArg₂ (fun (a : Fin 33) (b : Fin 5) => A (ix3 p a b)) (Fin.ext e1) (Fin.ext e2)

end Cert.KernelIdeal.Dense

end
-- ==== Proof.RefBin.lean ====
/- One bin of the reference, for any dense array and any pair of edges: the mask, the integer count, the mean and
   the occupancy, as vector operations, and what they read at a pillar. -/
module

public import proofs.«01_k».proof.Proof.Gen.ReferenceIdeal
public import proofs.«01_k».proof.Proof.Spec
public import Idealize.ShloMosaic.Lib.Routing.Ops

@[expose] public section

set_option maxRecDepth 16384

noncomputable section

namespace Cert.ReferenceIdeal.Bin

open Idealize.ShloMosaic Cert.ReferenceIdeal Cert.ReferenceIdeal.Gen Cert.Bins

variable (l h : BitVec 32) (D : FVec Ideal S100000x32x5 .f32)

/-- The slots' heights. -/
def zpl : FVec Ideal S100000x32 .f32 :=
  shapeCast S100000x32 (extractStridedSlice S100000x32x1 ![0, 0, 2] D slices_S100000x32x5_S100000x32x1_0_0_2)
    shapeCasts_S100000x32x1_S100000x32

/-- Which slots lie between the edges. -/
def msk : IVec S100000x32 1 :=
  andi (cmpf .ogt (zpl D) (broadcastInDim S100000x32 ![] bcast_S_S100000x32 (constant S_ .f32 l)))
    (cmpf .olt (zpl D) (broadcastInDim S100000x32 ![] bcast_S_S100000x32 (constant S_ .f32 h)))

/-- How many do, as a word. -/
def num : IVec S100000 32 :=
  Host.reduce IntOp.addi (extui 32 (msk l h D) natLt_1_32) (constantI S_ 32 0#32) reducesTo_S100000x32_S100000_d1 h_S_

/-- The mean of those that do. -/
def mean : FVec Ideal S100000x5 .f32 :=
  Host.divf
    (Host.reduceAdd (mulf D (broadcastInDim S100000x32x5 ![0, 1, 2] bcast_S100000x32x1_S100000x32x5_0_1_2
        (uitofp .f32 (broadcastInDim S100000x32x1 ![0, 1] bcast_S100000x32_S100000x32x1_0_1 (msk l h D)))))
      (constant S_ .f32 0x00000000#32) reducesTo_S100000x32x5_S100000x5_d1 h_S_)
    (broadcastInDim S100000x5 ![0, 1] bcast_S100000x1_S100000x5_0_1
      (maximumf (broadcastInDim S100000x1 ![] bcast_S_S100000x1 (id (constant S_ .f32 0x3F800000#32)))
        (sitofp .f32 (broadcastInDim S100000x1 ![0] bcast_S100000_S100000x1_0 (num l h D)))))

/-- Whether any does. -/
def occ : IVec S100000 1 :=
  cmpi .sgt (num l h D) (broadcastInDim S100000 ![] bcast_S_S100000 (constantI S_ 32 0#32))

/-- Pillar `p`'s slots. -/
abbrev slots (p : Fin 100000) : Fin 32 → Fin 5 → EReal := fun s c => D (ix3 p s c)

/-- The edges' values. -/
abbrev val (w : BitVec 32) : EReal := Ideal.ofBits .f32 w

variable (p : Fin 100000)

/-- The heights read channel 2. -/
theorem zpl_at (s : Fin 32) : zpl D (ix2 p s) = D (ix3 p s 2) := by
  pointwise [zpl]

/-- The mask at one slot. -/
theorem msk_at (s : Fin 32) : msk l h D (ix2 p s) = BitVec.ofBool (decide (val l < D (ix3 p s 2) ∧ D (ix3 p s 2) < val h)) := by
  rw [← zpl_at D p s]
  unfold msk
  generalize zpl D = z
  show IntOp.andi (BitVec.ofBool (decide (val l < z (ix2 p s)))) (BitVec.ofBool (decide (z (ix2 p s) < val h))) = _
  by_cases h1 : val l < z (ix2 p s) <;> by_cases h2 : z (ix2 p s) < val h <;> simp [h1, h2, IntOp.andi]

/-- The mask made a float is the indicator. -/
theorem ind_at (s : Fin 32) : (FloatOps.uitofp .f32 (msk l h D (ix2 p s)) : Ideal .f32) = ind (val l) (val h) (slots D p s 2) := by
  rw [msk_at]
  unfold ind
  by_cases hp : val l < slots D p s 2 ∧ slots D p s 2 < val h
  · rw [if_pos hp, decide_eq_true hp]
    show (((1#1).toNat : ℝ) : EReal) = 1
    simp
  · rw [if_neg hp, decide_eq_false hp]
    show (((0#1).toNat : ℝ) : EReal) = 0
    simp

/-- The count as a word, and that it is at most 32. -/
theorem num_toNat : ((num l h D (ix1 p)).toNat : EReal) = cnt (val l) (val h) (fun s => slots D p s 2) ∧ (num l h D (ix1 p)).toNat ≤ 32 := by
  have e := StableHlo.Predicate.toNat_reduce_count_cols (by norm_num) (msk l h D) natLt_1_32 reducesTo_S100000x32_S100000_d1 h_S_ (ix1 p)
  have e' : (num l h D (ix1 p)).toNat = (Finset.univ.filter fun s : Fin 32 => val l < slots D p s 2 ∧ slots D p s 2 < val h).card := by
    refine e.trans (congrArg Finset.card (Finset.filter_congr fun s _ => ?_))
    have hij : StableHlo.Predicate.ij p s = ix2 p s := by
      funext b
      match b with
      | ⟨0, _⟩ => rfl
      | ⟨1, _⟩ => rfl
    show msk l h D (StableHlo.Predicate.ij p s) = 1#1 ↔ _
    rw [hij, msk_at]
    by_cases hp : val l < slots D p s 2 ∧ slots D p s 2 < val h <;> simp [hp]
  rw [e']
  refine ⟨?_, (Finset.card_le_univ _).trans (by simp)⟩
  rw [cnt, Finset.natCast_card_filter]
  rfl

/-- The count as a float. -/
theorem num_at : (FloatOps.sitofp .f32 (num l h D (ix1 p)) : Ideal .f32) = cnt (val l) (val h) (fun s => slots D p s 2) := by
  obtain ⟨e, hle⟩ := num_toNat l h D p
  rw [← e]
  show (((num l h D (ix1 p)).toInt : ℝ) : EReal) = _
  generalize num l h D (ix1 p) = w at hle
  rw [BitVec.toInt_eq_toNat_of_lt (by omega)]
  simp

/-- The occupancy says whether the count is positive. -/
theorem occ_at : occ l h D (ix1 p) = 1#1 ↔ 0 < cnt (val l) (val h) (fun s => slots D p s 2) := by
  obtain ⟨e, hle⟩ := num_toNat l h D p
  rw [← e]
  show BitVec.ofBool (BitVec.slt 0#32 (num l h D (ix1 p))) = 1#1 ↔ _
  generalize num l h D (ix1 p) = w at hle
  have : BitVec.slt 0#32 w = decide (0 < w.toNat) := by
    rw [BitVec.slt, BitVec.toInt_eq_toNat_of_lt (x := w) (by omega)]
    simp
  rw [this]
  by_cases hw : 0 < w.toNat
  · simp [hw]
  · simp [hw]

/-- The mean at one channel. -/
theorem mean_at (c : Fin 5) : mean l h D (ix2 p c) =
    Ideal.div (tot (val l) (val h) (slots D p) c) (max (cnt (val l) (val h) fun s => slots D p s 2) 1) := by
  rw [← num_at]
  have hi := fun s => ind_at l h D p s
  unfold mean
  generalize num l h D = N
  generalize msk l h D = M at hi
  pointwise
  simp only [hi, id]
  rw [max_comm]
  congr 2
  exact Ideal.ofBits_one_f32

end Cert.ReferenceIdeal.Bin

end
-- ==== Proof.Reference.lean ====
/- What the reference's three results read: the features at a pillar, a bin and a channel, and from them the
   attention scores, the normalised linear layer and the constant heights, in terms of the dense array. -/
module

public import proofs.«01_k».proof.Proof.Gen.ReferenceIdeal.Read
public import proofs.«01_k».proof.Proof.RefBin

@[expose] public section

set_option maxRecDepth 16384

noncomputable section

namespace Cert.ReferenceIdeal.Rows

open Idealize.ShloMosaic Cert.ReferenceIdeal Cert.ReferenceIdeal.Gen Cert.ReferenceIdeal.Read Cert.ReferenceIdeal.Bin Cert.Bins

variable (x0 : (⟨S2000000x6, .f32⟩ : BufTy).Contents (Elt Ideal)) (x1 : (⟨S2000000, .i32⟩ : BufTy).Contents (Elt Ideal))
  (x3 x4 : (⟨S1x5, .f32⟩ : BufTy).Contents (Elt Ideal)) (x5 : (⟨S128x40, .f32⟩ : BufTy).Contents (Elt Ideal))
  (x6 x7 x8 x9 : (⟨S128, .f32⟩ : BufTy).Contents (Elt Ideal))

/-- The dense array. -/
abbrev dense : FVec Ideal S100000x32x5 .f32 := val_main_v55 x0 x1

theorem mean0 : val_main_v74 (F := Ideal) x0 x1 = mean (loWord 0) (hiWord 0) (dense x0 x1) := rfl
theorem occ0 : val_main_v78 (F := Ideal) x0 x1 = occ (loWord 0) (hiWord 0) (dense x0 x1) := rfl
theorem mean1 : val_main_v97 (F := Ideal) x0 x1 = mean (loWord 1) (hiWord 1) (dense x0 x1) := rfl
theorem occ1 : val_main_v101 (F := Ideal) x0 x1 = occ (loWord 1) (hiWord 1) (dense x0 x1) := rfl
theorem mean2 : val_main_v120 (F := Ideal) x0 x1 = mean (loWord 2) (hiWord 2) (dense x0 x1) := rfl
theorem occ2 : val_main_v124 (F := Ideal) x0 x1 = occ (loWord 2) (hiWord 2) (dense x0 x1) := rfl
theorem mean3 : val_main_v143 (F := Ideal) x0 x1 = mean (loWord 3) (hiWord 3) (dense x0 x1) := rfl
theorem occ3 : val_main_v147 (F := Ideal) x0 x1 = occ (loWord 3) (hiWord 3) (dense x0 x1) := rfl
theorem mean4 : val_main_v166 (F := Ideal) x0 x1 = mean (loWord 4) (hiWord 4) (dense x0 x1) := rfl
theorem occ4 : val_main_v170 (F := Ideal) x0 x1 = occ (loWord 4) (hiWord 4) (dense x0 x1) := rfl
theorem mean5 : val_main_v189 (F := Ideal) x0 x1 = mean (loWord 5) (hiWord 5) (dense x0 x1) := rfl
theorem occ5 : val_main_v193 (F := Ideal) x0 x1 = occ (loWord 5) (hiWord 5) (dense x0 x1) := rfl
theorem mean6 : val_main_v212 (F := Ideal) x0 x1 = mean (loWord 6) (hiWord 6) (dense x0 x1) := rfl
theorem occ6 : val_main_v216 (F := Ideal) x0 x1 = occ (loWord 6) (hiWord 6) (dense x0 x1) := rfl
theorem mean7 : val_main_v235 (F := Ideal) x0 x1 = mean (loWord 7) (hiWord 7) (dense x0 x1) := rfl
theorem occ7 : val_main_v239 (F := Ideal) x0 x1 = occ (loWord 7) (hiWord 7) (dense x0 x1) := rfl

/-- The eight bins' means stacked. -/
theorem means_at (p : Fin 100000) (b : Fin 8) (c : Fin 5) :
    val_main_v248 (F := Ideal) x0 x1 (ix3 p b c) = mean (loWord b) (hiWord b) (dense x0 x1) (ix2 p c) := by
  unfold val_main_v248 val_main_v240 val_main_v241 val_main_v242 val_main_v243 val_main_v244 val_main_v245 val_main_v246 val_main_v247
  rw [mean0, mean1, mean2, mean3, mean4, mean5, mean6, mean7]
  fin_cases b <;> pointwise

/-- The eight bins' occupancies stacked. -/
theorem occs_at (p : Fin 100000) (b : Fin 8) :
    val_main_v257 (F := Ideal) x0 x1 (ix2 p b) = occ (loWord b) (hiWord b) (dense x0 x1) (ix1 p) := by
  unfold val_main_v257 val_main_v249 val_main_v250 val_main_v251 val_main_v252 val_main_v253 val_main_v254 val_main_v255 val_main_v256
  rw [occ0, occ1, occ2, occ3, occ4, occ5, occ6, occ7]
  fin_cases b <;> pointwise

/-- The features. -/
theorem feat_at (p : Fin 100000) (b : Fin 8) (c : Fin 5) :
    val_main_v259 (F := Ideal) x0 x1 x3 (ix3 p b c) = feat (slots (dense x0 x1) p) (fun c => x3 (ix2 0 c)) b c := by
  have hm := means_at x0 x1 p b c
  have ho := occs_at x0 x1 p b
  rw [mean_at] at hm
  have ho' := occ_at (loWord b) (hiWord b) (dense x0 x1) p
  rw [← ho] at ho'
  unfold val_main_v259 val_main_call12_v0 val_main_call12_v1 val_main_v258
  generalize val_main_v248 (F := Ideal) x0 x1 = A at hm
  generalize val_main_v257 (F := Ideal) x0 x1 = B at ho'
  pointwise
  by_cases h : 0 < cnt (lo b) (hi b) fun s => slots (dense x0 x1) p s 2
  · rw [ho'.mpr h, feat, if_pos h]
    exact hm
  · have h0 : B (ix2 p b) = 0#1 := (by decide : ∀ v : BitVec 1, v ≠ 1#1 → v = 0#1) _ fun e => h (ho'.mp e)
    rw [h0, feat, if_neg h]
    rfl

/-- The attention scores. -/
theorem attn_at (p : Fin 100000) (b : Fin 8) :
    val_main_v262 (F := Ideal) x0 x1 x3 x4 (ix2 p b) =
      attn (slots (dense x0 x1) p) (fun c => x3 (ix2 0 c)) (fun c => x4 (ix2 0 c)) b := by
  have hf := feat_at x0 x1 x3 p b
  unfold val_main_v262 val_main_v261 val_main_v260
  generalize val_main_v259 (F := Ideal) x0 x1 x3 = A at hf
  pointwise
  simp only [hf]
  rfl

/-- The normalised linear layer. -/
theorem y_at (p : Fin 100000) (o : Fin 128) :
    val_main_v298 (F := Ideal) x0 x1 x3 x5 x6 x7 x8 x9 (ix2 p o) =
      norm (lin (slots (dense x0 x1) p) (fun c => x3 (ix2 0 c)) (fun j => x5 (ix2 o j))) (x8 (ix1 o)) (x9 (ix1 o)) (x6 (ix1 o)) (x7 (ix1 o)) := by
  have hf := fun b c => feat_at x0 x1 x3 p b c
  unfold val_main_v298 val_main_v297 val_main_v296 val_main_v295 val_main_v294 val_main_v293 val_main_v292 val_main_v291 val_main_v290 val_main_v289 val_main_v288 val_main_v287 val_main_v286 val_main_v285 val_main_v284 val_main_v283 val_main_v282 val_main_v281 val_main_v280 val_main_call13_v0 val_main_call13_cst val_main_cst_80
  generalize val_main_v259 (F := Ideal) x0 x1 x3 = A at hf
  pointwise
  simp only [hf]
  rfl

/-! ## The heights -/

theorem lit45 : Ideal.ofBits .f32 0x40900000#32 = ((9/2 : ℝ) : EReal) := by
  simp [Ideal.ofBits, Ideal.ieee, -EReal.coe_mul, -EReal.coe_neg]
  norm_num
theorem lit0 : Ideal.ofBits .f32 0xC0900000#32 = ((-9/2 : ℝ) : EReal) := by
  simp [Ideal.ofBits, Ideal.ieee, -EReal.coe_mul, -EReal.coe_neg]
  norm_num
theorem lit1 : Ideal.ofBits .f32 0xC0600000#32 = ((-7/2 : ℝ) : EReal) := by
  simp [Ideal.ofBits, Ideal.ieee, -EReal.coe_mul, -EReal.coe_neg]
  norm_num
theorem lit2 : Ideal.ofBits .f32 0xC0200000#32 = ((-5/2 : ℝ) : EReal) := by
  simp [Ideal.ofBits, Ideal.ieee, -EReal.coe_mul, -EReal.coe_neg]
  norm_num
theorem lit3 : Ideal.ofBits .f32 0xBFC00000#32 = ((-3/2 : ℝ) : EReal) := by
  simp [Ideal.ofBits, Ideal.ieee, -EReal.coe_mul, -EReal.coe_neg]
  norm_num
theorem lit4 : Ideal.ofBits .f32 0xBF000000#32 = ((-1/2 : ℝ) : EReal) := by
  simp [Ideal.ofBits, Ideal.ieee, -EReal.coe_mul, -EReal.coe_neg]
  norm_num
theorem lit5 : Ideal.ofBits .f32 0x3F000000#32 = ((1/2 : ℝ) : EReal) := by
  simp [Ideal.ofBits, Ideal.ieee, -EReal.coe_mul, -EReal.coe_neg]
  norm_num
theorem lit6 : Ideal.ofBits .f32 0x3FC00000#32 = ((3/2 : ℝ) : EReal) := by
  simp [Ideal.ofBits, Ideal.ieee, -EReal.coe_mul, -EReal.coe_neg]
  norm_num
theorem lit7 : Ideal.ofBits .f32 0x40200000#32 = ((5/2 : ℝ) : EReal) := by
  simp [Ideal.ofBits, Ideal.ieee, -EReal.coe_mul, -EReal.coe_neg]
  norm_num

/-- The heights are constants. -/
theorem z_coord (p : Fin 100000) (b : Fin 8) :
    val_main_v279 (F := Ideal) (ix3 p b 0) = ((b.val : ℝ) : EReal) - Ideal.ofBits .f32 0x40900000#32 := by
  unfold val_main_v279
  rw [lit45]
  fin_cases b
  · pointwise [val_main_v271, val_main_v263, val_main_cst_72]
    rw [lit0, ← EReal.coe_sub]
    norm_num
  · pointwise [val_main_v272, val_main_v264, val_main_cst_73]
    rw [lit1, ← EReal.coe_sub]
    norm_num
  · pointwise [val_main_v273, val_main_v265, val_main_cst_74]
    rw [lit2, ← EReal.coe_sub]
    norm_num
  · pointwise [val_main_v274, val_main_v266, val_main_cst_75]
    rw [lit3, ← EReal.coe_sub]
    norm_num
  · pointwise [val_main_v275, val_main_v267, val_main_cst_76]
    rw [lit4, ← EReal.coe_sub]
    norm_num
  · pointwise [val_main_v276, val_main_v268, val_main_cst_77]
    rw [lit5, ← EReal.coe_sub]
    norm_num
  · pointwise [val_main_v277, val_main_v269, val_main_cst_78]
    rw [lit6, ← EReal.coe_sub]
    norm_num
  · pointwise [val_main_v278, val_main_v270, val_main_cst_79]
    rw [lit7, ← EReal.coe_sub]
    norm_num

end Cert.ReferenceIdeal.Rows

end
-- ==== Proof.Arrays.lean ====
/- From the blocks the grid steps write to the whole arrays: the kernel's two output arrays are the reference's terms
   over the kernel's own arguments. Row `p` is written by the step `p / 1000` in its row `p % 1000`. -/
module

public import proofs.«01_k».proof.Proof.Gen.KernelIdeal.Value
public import proofs.«01_k».proof.Proof.Block
public import proofs.«01_k».proof.Proof.HostConst
public import proofs.«01_k».proof.Proof.Dense
public import proofs.«01_k».proof.Proof.Reference
public import Idealize.ShloMosaic.Lib.Pipeline.ValueKit

@[expose] public section

set_option maxRecDepth 16384

noncomputable section

namespace Cert.KernelIdeal.Arrays

open Idealize.ShloMosaic Idealize.ShloMosaic.TcCoe Cert.ReferenceIdeal.Read Cert.KernelIdeal Cert.KernelIdeal.Gen Cert.Bins
open Idealize.ShloMosaic.Pipeline (Dat)

variable (m : (ℓ : Loc nD τ sig) → Buf (Elt Ideal) ℓ) (c : Dev nD) (t : Fin cfg0.N)

/-! ## The blocks at their coordinates -/

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![0, 0] := (by decide +kernel : ∀ t : Fin grid0.N, _)
theorem i12 : ∀ t : Fin cfg0.N, win0_12.index t = ![t.val, 0] := (by decide +kernel : ∀ t : Fin grid0.N, _)
theorem i13 : ∀ t : Fin cfg0.N, win0_13.index t = ![t.val, 0] := (by decide +kernel : ∀ t : Fin grid0.N, _)

theorem steps (t : Fin cfg0.N) : t.val < 100 := by
  have h := t.isLt
  have e : cfg0.N = 100 := N_0
  omega

/-- The pillar that row `r` of step `t` is. -/
def pillar (t : Fin cfg0.N) (r : Fin 1000) : Fin 100000 := ⟨1000 * t.val + r.val, by have := steps t; omega⟩

/-- The contents of a core's buffers, whatever they are. -/
abbrev Bufs := (b : Ref sig Kind.tc) → b.ty.Contents (Elt Ideal)

theorem place0 (r : Fin 1000) (j : Fin 160) : ((cfg0.win 0).blk t).view.emb (ix2 r j) = (ix2 (pillar t r) j : S100000x160.Idx) := by
  blk_ext [i0 t, pillar]

theorem read0 (A : Bufs) (r : Fin 1000) (j : Fin 160) :
    ((cfg0.win 0).blk t).view.read (Elt Ideal) (A (Pipeline.arrRef spec0 0)) (ix2 r j) = A main_v56 (ix2 (pillar t r) j) := by
  rw [← place0]
  rfl

theorem b0 (r : Fin 1000) (j : Fin 160) : iblk m c 0 t (ix2 r j) = V m c main_v56 (ix2 (pillar t r) j) :=
  read0 t (V m c) r j

theorem place1 (i : Fin 160) (j : Fin 32) : ((cfg0.win 1).blk t).view.emb (ix2 i j) = (ix2 i j : S160x32.Idx) := by
  blk_ext [i1 t]

theorem read1 (A : Bufs) (i : Fin 160) (j : Fin 32) :
    ((cfg0.win 1).blk t).view.read (Elt Ideal) (A (Pipeline.arrRef spec0 1)) (ix2 i j) = A main_v68 (ix2 i j) :=
  congrArg (A main_v68) (place1 t i j)

theorem b1 (i : Fin 160) (j : Fin 32) : iblk m c 1 t (ix2 i j) = V m c main_v68 (ix2 i j) :=
  read1 t (V m c) i j

theorem place2 (i : Fin 32) (j : Fin 160) : ((cfg0.win 2).blk t).view.emb (ix2 i j) = (ix2 i j : S32x160.Idx) := by
  blk_ext [i2 t]

theorem read2 (A : Bufs) (i : Fin 32) (j : Fin 160) :
    ((cfg0.win 2).blk t).view.read (Elt Ideal) (A (Pipeline.arrRef spec0 2)) (ix2 i j) = A main_v75 (ix2 i j) :=
  congrArg (A main_v75) (place2 t i j)

theorem b2 (i : Fin 32) (j : Fin 160) : iblk m c 2 t (ix2 i j) = V m c main_v75 (ix2 i j) :=
  read2 t (V m c) i j

theorem place3 (i : Fin 160) (j : Fin 8) : ((cfg0.win 3).blk t).view.emb (ix2 i j) = (ix2 i j : S160x8.Idx) := by
  blk_ext [i3 t]

theorem read3 (A : Bufs) (i : Fin 160) (j : Fin 8) :
    ((cfg0.win 3).blk t).view.read (Elt Ideal) (A (Pipeline.arrRef spec0 3)) (ix2 i j) = A main_v83 (ix2 i j) :=
  congrArg (A main_v83) (place3 t i j)

theorem b3 (i : Fin 160) (j : Fin 8) : iblk m c 3 t (ix2 i j) = V m c main_v83 (ix2 i j) :=
  read3 t (V m c) i j

theorem place4 (i : Fin 40) (j : Fin 128) : ((cfg0.win 4).blk t).view.emb (ix2 i j) = (ix2 i j : S40x128.Idx) := by
  blk_ext [i4 t]

theorem read4 (A : Bufs) (i : Fin 40) (j : Fin 128) :
    ((cfg0.win 4).blk t).view.read (Elt Ideal) (A (Pipeline.arrRef spec0 4)) (ix2 i j) = A main_v94 (ix2 i j) :=
  congrArg (A main_v94) (place4 t i j)

theorem b4 (i : Fin 40) (j : Fin 128) : iblk m c 4 t (ix2 i j) = V m c main_v94 (ix2 i j) :=
  read4 t (V m c) i j

theorem place5 (i : Fin 1) (j : Fin 40) : ((cfg0.win 5).blk t).view.emb (ix2 i j) = (ix2 i j : S1x40.Idx) := by
  blk_ext [i5 t]

theorem read5 (A : Bufs) (i : Fin 1) (j : Fin 40) :
    ((cfg0.win 5).blk t).view.read (Elt Ideal) (A (Pipeline.arrRef spec0 5)) (ix2 i j) = A main_v97 (ix2 i j) :=
  congrArg (A main_v97) (place5 t i j)

theorem b5 (i : Fin 1) (j : Fin 40) : iblk m c 5 t (ix2 i j) = V m c main_v97 (ix2 i j) :=
  read5 t (V m c) i j

theorem place6 (i : Fin 1) (j : Fin 40) : ((cfg0.win 6).blk t).view.emb (ix2 i j) = (ix2 i j : S1x40.Idx) := by
  blk_ext [i6 t]

theorem read6 (A : Bufs) (i : Fin 1) (j : Fin 40) :
    ((cfg0.win 6).blk t).view.read (Elt Ideal) (A (Pipeline.arrRef spec0 6)) (ix2 i j) = A main_v100 (ix2 i j) :=
  congrArg (A main_v100) (place6 t i j)

theorem b6 (i : Fin 1) (j : Fin 40) : iblk m c 6 t (ix2 i j) = V m c main_v100 (ix2 i j) :=
  read6 t (V m c) i j

theorem place7 (i : Fin 40) (j : Fin 8) : ((cfg0.win 7).blk t).view.emb (ix2 i j) = (ix2 i j : S40x8.Idx) := by
  blk_ext [i7 t]

theorem read7 (A : Bufs) (i : Fin 40) (j : Fin 8) :
    ((cfg0.win 7).blk t).view.read (Elt Ideal) (A (Pipeline.arrRef spec0 7)) (ix2 i j) = A main_v93 (ix2 i j) :=
  congrArg (A main_v93) (place7 t i j)

theorem b7 (i : Fin 40) (j : Fin 8) : iblk m c 7 t (ix2 i j) = V m c main_v93 (ix2 i j) :=
  read7 t (V m c) i j

theorem place8 (i : Fin 1) (j : Fin 128) : ((cfg0.win 8).blk t).view.emb (ix2 i j) = (ix2 i j : S1x128.Idx) := by
  blk_ext [i8 t]

theorem read8 (A : Bufs) (i : Fin 1) (j : Fin 128) :
    ((cfg0.win 8).blk t).view.read (Elt Ideal) (A (Pipeline.arrRef spec0 8)) (ix2 i j) = A main_v101 (ix2 i j) :=
  congrArg (A main_v101) (place8 t i j)

theorem b8 (i : Fin 1) (j : Fin 128) : iblk m c 8 t (ix2 i j) = V m c main_v101 (ix2 i j) :=
  read8 t (V m c) i j

theorem place9 (i : Fin 1) (j : Fin 128) : ((cfg0.win 9).blk t).view.emb (ix2 i j) = (ix2 i j : S1x128.Idx) := by
  blk_ext [i9 t]

theorem read9 (A : Bufs) (i : Fin 1) (j : Fin 128) :
    ((cfg0.win 9).blk t).view.read (Elt Ideal) (A (Pipeline.arrRef spec0 9)) (ix2 i j) = A main_v102 (ix2 i j) :=
  congrArg (A main_v102) (place9 t i j)

theorem b9 (i : Fin 1) (j : Fin 128) : iblk m c 9 t (ix2 i j) = V m c main_v102 (ix2 i j) :=
  read9 t (V m c) i j

theorem place10 (i : Fin 1) (j : Fin 128) : ((cfg0.win 10).blk t).view.emb (ix2 i j) = (ix2 i j : S1x128.Idx) := by
  blk_ext [i10 t]

theorem read10 (A : Bufs) (i : Fin 1) (j : Fin 128) :
    ((cfg0.win 10).blk t).view.read (Elt Ideal) (A (Pipeline.arrRef spec0 10)) (ix2 i j) = A main_v103 (ix2 i j) :=
  congrArg (A main_v103) (place10 t i j)

theorem b10 (i : Fin 1) (j : Fin 128) : iblk m c 10 t (ix2 i j) = V m c main_v103 (ix2 i j) :=
  read10 t (V m c) i j

theorem place11 (i : Fin 1) (j : Fin 128) : ((cfg0.win 11).blk t).view.emb (ix2 i j) = (ix2 i j : S1x128.Idx) := by
  blk_ext [i11 t]

theorem read11 (A : Bufs) (i : Fin 1) (j : Fin 128) :
    ((cfg0.win 11).blk t).view.read (Elt Ideal) (A (Pipeline.arrRef spec0 11)) (ix2 i j) = A main_v104 (ix2 i j) :=
  congrArg (A main_v104) (place11 t i j)

theorem b11 (i : Fin 1) (j : Fin 128) : iblk m c 11 t (ix2 i j) = V m c main_v104 (ix2 i j) :=
  read11 t (V m c) i j

theorem place12 (r : Fin 1000) (j : Fin 128) : ((cfg0.win 12).blk t).view.emb (ix2 r j) = (ix2 (pillar t r) j : S100000x128.Idx) := by
  blk_ext [i12 t, pillar]

theorem place13 (r : Fin 1000) (j : Fin 8) : ((cfg0.win 13).blk t).view.emb (ix2 r j) = (ix2 (pillar t r) j : S100000x8.Idx) := by
  blk_ext [i13 t, pillar]

/-! ## A step's blocks are the reference's rows -/

/-- The slots of a row of the block a step loads. -/
theorem slots_eq (r : Fin 1000) : Block.slots (iblk m c 0 t) r =
    Cert.ReferenceIdeal.Bin.slots (val_main_v55 (F := Ideal) (m (c, Proc.tc.devRef main_arg0)) (m (c, Proc.tc.devRef main_arg1))) (pillar t r) := by
  funext s q
  exact (b0 m c t r (col s q)).trans (Dense.dense2 m c (pillar t r) s q)

/-- The weighted bins of a step's rows. -/
theorem attn_block (r : Fin 1000) (b : Fin 8) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r b) =
      val_main_v262 (F := Ideal) (m (c, Proc.tc.devRef main_arg0)) (m (c, Proc.tc.devRef main_arg1)) (m (c, Proc.tc.devRef main_arg3)) (m (c, Proc.tc.devRef main_arg4)) (ix2 (pillar t r) b) := by
  rw [Cert.ReferenceIdeal.Rows.attn_at, ← slots_eq]
  exact Block.attn_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (fun j s => (b1 m c t j s).trans (Host.ez m c j s)) (fun s j => (b2 m c t s j).trans (Host.rex m c s j))
    (fun j q => (b3 m c t j q).trans (Host.sc m c j ⟨q.val, by omega⟩)) r
    (fun q => (m (c, Proc.tc.devRef main_arg3)) (ix2 0 q)) (fun q => (m (c, Proc.tc.devRef main_arg4)) (ix2 0 q))
    (fun q => (b5 m c t 0 q).trans (Host.emb_row m c q)) (fun q => (b6 m c t 0 q).trans (Host.attn_row m c q))
    (fun j b => (b7 m c t j b).trans (Host.smat m c j b)) b

/-- The running variances exceed minus the small constant. -/
def Positive (v : Fin 128 → EReal) : Prop := ∀ o, 0 < v o + eps

/-- The normalised layer of a step's rows. -/
theorem y_block (hr : Positive fun o => m (c, Proc.tc.devRef main_arg9) (ix1 o)) (r : Fin 1000) (o : Fin 128) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r o) =
      val_main_v298 (F := Ideal) (m (c, Proc.tc.devRef main_arg0)) (m (c, Proc.tc.devRef main_arg1)) (m (c, Proc.tc.devRef main_arg3)) (m (c, Proc.tc.devRef main_arg5)) (m (c, Proc.tc.devRef main_arg6)) (m (c, Proc.tc.devRef main_arg7)) (m (c, Proc.tc.devRef main_arg8)) (m (c, Proc.tc.devRef main_arg9)) (ix2 (pillar t r) o) := by
  rw [Cert.ReferenceIdeal.Rows.y_at, ← slots_eq, ← norm_rsqrt _ _ _ _ _ (hr o)]
  refine (Block.y_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (fun j s => (b1 m c t j s).trans (Host.ez m c j s)) (fun s j => (b2 m c t s j).trans (Host.rex m c s j))
    (fun j q => (b3 m c t j q).trans (Host.sc m c j ⟨q.val, by omega⟩)) r
    (fun q => (m (c, Proc.tc.devRef main_arg3)) (ix2 0 q))
    (fun q => (b5 m c t 0 q).trans (Host.emb_row m c q)) o).trans ?_
  rw [(b8 m c t 0 o).trans (Host.rm m c o), (b9 m c t 0 o).trans (Host.rv m c o), (b10 m c t 0 o).trans (Host.gm m c o),
    (b11 m c t 0 o).trans (Host.bt m c o), funext fun j => (b4 m c t j o).trans (Host.lin_wt m c j o)]

/-! ## The whole arrays -/

/-- The weighted bins: the kernel's second output array is the reference's. -/
theorem final13 : (dats m 0 c).arrAt 13 cfg0.N = val_main_v262 (F := Ideal) (m (c, Proc.tc.devRef main_arg0)) (m (c, Proc.tc.devRef main_arg1)) (m (c, Proc.tc.devRef main_arg3)) (m (c, Proc.tc.devRef main_arg4)) := by
  refine (dats m 0 c).arrAt_eq_of_covers 13 _ (by decide +kernel) fun t _ y => ?_
  obtain ⟨r, j, rfl⟩ : ∃ (r : Fin 1000) (j : Fin 8), y = ix2 r j :=
    ⟨y 0, y 1, by funext a; fin_cases a <;> rfl⟩
  rw [after0_13]
  have h := attn_block m c t r j
  rw [← place13] at h
  generalize out0_13 (F := Ideal) _ _ _ _ _ _ _ _ _ _ _ _ = X at h ⊢
  generalize val_main_v262 (F := Ideal) _ _ _ _ = G at h ⊢
  exact h

/-- The normalised layer: the kernel's first output array is the reference's. -/
theorem final12 (hr : Positive fun o => m (c, Proc.tc.devRef main_arg9) (ix1 o)) : (dats m 0 c).arrAt 12 cfg0.N = val_main_v298 (F := Ideal) (m (c, Proc.tc.devRef main_arg0)) (m (c, Proc.tc.devRef main_arg1)) (m (c, Proc.tc.devRef main_arg3)) (m (c, Proc.tc.devRef main_arg5)) (m (c, Proc.tc.devRef main_arg6)) (m (c, Proc.tc.devRef main_arg7)) (m (c, Proc.tc.devRef main_arg8)) (m (c, Proc.tc.devRef main_arg9)) := by
  refine (dats m 0 c).arrAt_eq_of_covers 12 _ (by decide +kernel) fun t _ y => ?_
  obtain ⟨r, j, rfl⟩ : ∃ (r : Fin 1000) (j : Fin 128), y = ix2 r j :=
    ⟨y 0, y 1, by funext a; fin_cases a <;> rfl⟩
  rw [after0_12]
  have h := y_block m c t hr r j
  rw [← place12] at h
  generalize out0_12 (F := Ideal) _ _ _ _ _ _ _ _ _ _ _ _ = X at h ⊢
  generalize val_main_v298 (F := Ideal) _ _ _ _ _ _ _ _ = G at h ⊢
  exact h

end Cert.KernelIdeal.Arrays

end
-- ==== Proof.Runs.lean ====
/- The two runs, each ending with its three results named by the reference's own terms over the arguments. -/
module

public import proofs.«01_k».proof.Proof.Arrays
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

open Idealize.ShloMosaic Idealize.ShloMosaic.TcCoe Idealize.SL.Sem

namespace Cert.ReferenceIdeal.Runs

open Cert.ReferenceIdeal Cert.ReferenceIdeal.Gen Cert.ReferenceIdeal.Read Cert.ReferenceIdeal.Value

variable (m : (ℓ : Loc nD τ sig) → Buf (Elt Ideal) ℓ) (g : Dev nD → PrngReg)

/-- The reference terminates with its arguments unchanged; it has no counters. -/
theorem frame : θ_run (defs (F := Ideal)) (onTc (τ := τ) (main (F := Ideal))) ⟨m, fun _ => 0, g⟩ fun r => (∀ c : Dev nD,
       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun r h => ⟨fun c => (h c).2.2.2, sem_eq_zero_of_no_sems (by decide) r.2⟩) (Value.run m g)

/-- The reference's results. -/
theorem results : θ_run (defs (F := Ideal)) (onTc (τ := τ) (main (F := Ideal))) ⟨m, fun _ => 0, g⟩ fun r => ∀ c : Dev nD,
      r.2.mem ((c.tc : Thread nD τ).loc main_v298) = val_main_v298 (F := Ideal) (m (c, Proc.tc.devRef main_arg0)) (m (c, Proc.tc.devRef main_arg1)) (m (c, Proc.tc.devRef main_arg3)) (m (c, Proc.tc.devRef main_arg5)) (m (c, Proc.tc.devRef main_arg6)) (m (c, Proc.tc.devRef main_arg7)) (m (c, Proc.tc.devRef main_arg8)) (m (c, Proc.tc.devRef main_arg9))
      ∧ r.2.mem ((c.tc : Thread nD τ).loc main_v279) = val_main_v279 (F := Ideal)
      ∧ r.2.mem ((c.tc : Thread nD τ).loc main_v262) = val_main_v262 (F := Ideal) (m (c, Proc.tc.devRef main_arg0)) (m (c, Proc.tc.devRef main_arg1)) (m (c, Proc.tc.devRef main_arg3)) (m (c, Proc.tc.devRef main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (val_main_v298_eq (StableHlo.launchContents m c)),
    (h c).2.1.trans (val_main_v279_eq (StableHlo.launchContents m c)), (h c).2.2.1.trans (val_main_v262_eq (StableHlo.launchContents m c)), (h c).2.2.2⟩)
    (Value.run m g)

end Cert.ReferenceIdeal.Runs

namespace Cert.KernelIdeal.Runs

open Cert.KernelIdeal Cert.KernelIdeal.Gen Cert.ReferenceIdeal.Read

variable (m : (ℓ : Loc nD τ sig) → Buf (Elt Ideal) ℓ) (g : Dev nD → PrngReg)

/-- The heights of the bins, the same on both sides. -/
theorem z_coord (c : Dev nD) : V m c main_v109 = val_main_v279 (F := Ideal) := by
  funext i
  obtain ⟨p, b, rfl⟩ : ∃ (p : Fin 100000) (b : Fin 8), i = ix3 p b 0 :=
    ⟨i 0, i 1, by funext a; fin_cases a; rfl; rfl; exact Fin.eq_zero _⟩
  exact (Host.z_coord m c p b).trans (Cert.ReferenceIdeal.Rows.z_coord p b).symm

/-- The kernel's results, where the running variances exceed minus the small constant. -/
theorem results (hr : ∀ c : Dev nD, Arrays.Positive fun o => m (c, Proc.tc.devRef main_arg9) (ix1 o)) :
    θ_run (defs (F := Ideal)) (onTc (τ := τ) (main (F := Ideal))) ⟨m, fun _ => 0, g⟩ fun r => ∀ c : Dev nD,
      r.2.mem ((c.tc : Thread nD τ).loc main_v110_0) = val_main_v298 (F := Ideal) (m (c, Proc.tc.devRef main_arg0)) (m (c, Proc.tc.devRef main_arg1)) (m (c, Proc.tc.devRef main_arg3)) (m (c, Proc.tc.devRef main_arg5)) (m (c, Proc.tc.devRef main_arg6)) (m (c, Proc.tc.devRef main_arg7)) (m (c, Proc.tc.devRef main_arg8)) (m (c, Proc.tc.devRef main_arg9))
      ∧ r.2.mem ((c.tc : Thread nD τ).loc main_v109) = val_main_v279 (F := Ideal)
      ∧ r.2.mem ((c.tc : Thread nD τ).loc main_v110_1) = val_main_v262 (F := Ideal) (m (c, Proc.tc.devRef main_arg0)) (m (c, Proc.tc.devRef main_arg1)) (m (c, Proc.tc.devRef main_arg3)) (m (c, Proc.tc.devRef main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 12).trans (Arrays.final12 m c (hr c)),
      ((h c).2 main_v109 (Pipeline.mem_restRefs_of main_v109 (by decide) (by decide))).trans (z_coord m c),
      ((h c).1 13).trans (Arrays.final13 m c),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c,
      Value.kept_main_arg9 m r h c⟩)
    (run_main m g)

end Cert.KernelIdeal.Runs

end
-- ==== Proof.lean ====
/- The certificate of the dense binning kernel: both programs terminate, keep their arguments and their counters, and
   over the extended reals return the same three arrays wherever every running variance exceeds minus the small constant. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Runs
public import Idealize.ShloMosaic.Adequacy
public import Idealize.ShloMosaic.Init

@[expose] public section

set_option maxRecDepth 16384

noncomputable section

namespace Cert.Proof

open Idealize.ShloMosaic Idealize.SL.Sem Cert.Bins

/-- The shapes the precondition states. -/
instance preFacts : Cert.Pre_variance_above_minus_eps.Facts := ⟨by decide⟩

/-- The precondition, read at an index: the running variance plus the small constant is positive. -/
theorem positive (x0 x1 x2 x3 x4 x5 x6 x7 x8) (v : FVec Ideal Cert.KernelIdeal.S128 .f32)
    (h : Cert.Pre_variance_above_minus_eps.fn (F := Ideal) x0 x1 x2 x3 x4 x5 x6 x7 x8 v = fun _ => 1#1) :
    Cert.KernelIdeal.Arrays.Positive fun o => v (ix1 o) := by
  intro o
  have e : BitVec.ofBool (decide (Ideal.ofBits .f32 0x00000000#32 < v (ix1 o) + eps)) = 1#1 := congrFun h (ix1 o)
  have z : Ideal.ofBits .f32 0x00000000#32 = 0 := by simp [Ideal.ofBits, Ideal.ieee]
  rw [z] at e
  by_contra hn
  rw [decide_eq_false hn] at e
  exact absurd e (by decide)

/-- From memories agreeing on the arguments the two programs return the same arrays. -/
theorem algebraic : Cert.algebraic_KernelIdeal_ReferenceIdeal_pre_variance_above_minus_eps
    (hKernelIdeal := Cert.KernelIdeal.Gen.facts) (hReferenceIdeal := Cert.ReferenceIdeal.Gen.facts)
    (hPre_variance_above_minus_eps := preFacts) := by
  intro m g m' g' hpre hagree
  have hr : ∀ c, Cert.KernelIdeal.Arrays.Positive fun o => m (c, Proc.tc.devRef Cert.KernelIdeal.main_arg9) (ix1 o) :=
    fun c => positive _ _ _ _ _ _ _ _ _ _ (hpre c)
  refine ⟨_, _, _, Cert.KernelIdeal.Runs.results m g hr, ?_⟩
  refine θ_run_mono (Cert.ReferenceIdeal.Runs.results m' g') fun r h c => ?_
  obtain ⟨a0, a1, a2, a3, a4, a5, a6, a7, a8, a9⟩ := hagree c
  obtain ⟨h0, h1, h2, hk⟩ := h c
  refine ⟨h0.trans ?_, h1, h2.trans ?_, hk⟩
  · exact congr (congr (congr (congr (congr (congr (congr (congrArg Cert.ReferenceIdeal.Read.val_main_v298 a0) a1) a3) a5) a6) a7) a8) a9
  · exact congr (congr (congr (congrArg Cert.ReferenceIdeal.Read.val_main_v262 a0) a1) a3) a4

/-- Everything the certificate states. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    fun m g _ => Cert.ReferenceIdeal.Runs.frame m g,
    fun m g _ => Cert.ReferenceIdeal.Runs.frame m g,
    trivial, algebraic⟩

end Cert.Proof

end
